-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite [hPre_finite : Cert.Pre_finite.Facts] (m : (ℓ : Loc Cert.DiffIdeal.nD Cert.DiffIdeal.τ Cert.DiffIdeal.sig) → Buf (Elt Ideal) ℓ) : Prop :=
  ∀ c : Dev Cert.DiffIdeal.nD,
    (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffIdeal_pre_finite [hDiffIdeal : Cert.DiffIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def preserves_Diff_DiffIdeal : Prop :=
  IdealRules.named_const.Statement Cert.DiffIdeal.κ "mask" .f32 0xF149F2CA#32 ⊥

def algebraic_DiffIdeal_DiffRefIdeal_pre_finite [hDiffIdeal : Cert.DiffIdeal.Facts] [hDiffRefIdeal : Cert.DiffRefIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)
      ∧ m' ((c.tc : Thread Cert.DiffRefIdeal.nD Cert.DiffRefIdeal.τ).loc Cert.DiffRefIdeal.main_arg7) = m ((c.tc : Thread Cert.DiffIdeal.nD Cert.DiffIdeal.τ).loc Cert.DiffIdeal.main_arg7)) →
    ∃ (v0 : (c : Dev Cert.DiffIdeal.nD) → Buf (Elt Ideal) ((c.tc : Thread Cert.DiffIdeal.nD Cert.DiffIdeal.τ).loc Cert.DiffIdeal.main_v10)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v10) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v75) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v12)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v12) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v44) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v61_0)) (v1 : (c : Dev Cert.ProjIdeal.nD) → Buf (Elt Ideal) ((c.tc : Thread Cert.ProjIdeal.nD Cert.ProjIdeal.τ).loc Cert.ProjIdeal.main_v61_1)) (v2 : (c : Dev Cert.ProjIdeal.nD) → Buf (Elt Ideal) ((c.tc : Thread Cert.ProjIdeal.nD Cert.ProjIdeal.τ).loc Cert.ProjIdeal.main_v61_2)) (v3 : (c : Dev Cert.ProjIdeal.nD) → Buf (Elt Ideal) ((c.tc : Thread Cert.ProjIdeal.nD Cert.ProjIdeal.τ).loc Cert.ProjIdeal.main_v61_3)) (v4 : (c : Dev Cert.ProjIdeal.nD) → Buf (Elt Ideal) ((c.tc : Thread Cert.ProjIdeal.nD Cert.ProjIdeal.τ).loc Cert.ProjIdeal.main_v61_4)) (v5 : (c : Dev Cert.ProjIdeal.nD) → Buf (Elt Ideal) ((c.tc : Thread Cert.ProjIdeal.nD Cert.ProjIdeal.τ).loc Cert.ProjIdeal.main_v61_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v61_0) = v0 c
          ∧ r.2.mem ((c.tc : Thread Cert.ProjIdeal.nD Cert.ProjIdeal.τ).loc Cert.ProjIdeal.main_v61_1) = v1 c
          ∧ r.2.mem ((c.tc : Thread Cert.ProjIdeal.nD Cert.ProjIdeal.τ).loc Cert.ProjIdeal.main_v61_2) = v2 c
          ∧ r.2.mem ((c.tc : Thread Cert.ProjIdeal.nD Cert.ProjIdeal.τ).loc Cert.ProjIdeal.main_v61_3) = v3 c
          ∧ r.2.mem ((c.tc : Thread Cert.ProjIdeal.nD Cert.ProjIdeal.τ).loc Cert.ProjIdeal.main_v61_4) = v4 c
          ∧ r.2.mem ((c.tc : Thread Cert.ProjIdeal.nD Cert.ProjIdeal.τ).loc Cert.ProjIdeal.main_v61_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v100) = v0 c
          ∧ r.2.mem ((c.tc : Thread Cert.ProjRefIdeal.nD Cert.ProjRefIdeal.τ).loc Cert.ProjRefIdeal.main_v103) = v1 c
          ∧ r.2.mem ((c.tc : Thread Cert.ProjRefIdeal.nD Cert.ProjRefIdeal.τ).loc Cert.ProjRefIdeal.main_v106) = v2 c
          ∧ r.2.mem ((c.tc : Thread Cert.ProjRefIdeal.nD Cert.ProjRefIdeal.τ).loc Cert.ProjRefIdeal.main_v109) = v3 c
          ∧ r.2.mem ((c.tc : Thread Cert.ProjRefIdeal.nD Cert.ProjRefIdeal.τ).loc Cert.ProjRefIdeal.main_v115) = v4 c
          ∧ r.2.mem ((c.tc : Thread Cert.ProjRefIdeal.nD Cert.ProjRefIdeal.τ).loc Cert.ProjRefIdeal.main_v118) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Band_BandIdeal : Prop :=
  True

def Claim : Prop :=
  ∃ (hDiff : Cert.Diff.Facts) (hDiffIdeal : Cert.DiffIdeal.Facts) (hDiffRefIdeal : Cert.DiffRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hBand : Cert.Band.Facts) (hBandIdeal : Cert.BandIdeal.Facts) (hPre_finite : Cert.Pre_finite.Facts),
    quiescent_Diff (hDiff := hDiff)
    ∧ quiescent_DiffIdeal (hDiffIdeal := hDiffIdeal)
    ∧ quiescent_DiffIdeal_pre_finite (hDiffIdeal := hDiffIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_Band (hBand := hBand)
    ∧ quiescent_BandIdeal (hBandIdeal := hBandIdeal)
    ∧ preserves_Diff_DiffIdeal
    ∧ algebraic_DiffIdeal_DiffRefIdeal_pre_finite (hDiffIdeal := hDiffIdeal) (hDiffRefIdeal := hDiffRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_Band_BandIdeal
-- ==== Pre_finite.lean ====
abbrev S32x16x512x128 : Shape := ⟨4, ![32, 16, 512, 128]⟩
abbrev S32x4x2048x128 : Shape := ⟨4, ![32, 4, 2048, 128]⟩
abbrev S1x32 : Shape := ⟨2, ![1, 32]⟩
abbrev S1x64 : Shape := ⟨2, ![1, 64]⟩
abbrev S_ : Shape := ⟨0, ![]⟩

class Facts : Prop where
  bitsLt_bf16_f32 : FTy.bits .bf16 < FTy.bits .f32
  bcast_S_S32x16x512x128 : S_.BroadcastsInDim S32x16x512x128 (![] : Fin 0 → Fin S32x16x512x128.rank)
  reducesTo_S32x16x512x128_S_d0_1_2_3 : S32x16x512x128.ReducesTo [0, 1, 2, 3] S_
  h_S_ : 0 < S_.numel
  bcast_S_S32x4x2048x128 : S_.BroadcastsInDim S32x4x2048x128 (![] : Fin 0 → Fin S32x4x2048x128.rank)
  reducesTo_S32x4x2048x128_S_d0_1_2_3 : S32x4x2048x128.ReducesTo [0, 1, 2, 3] S_
  bcast_S_S1x32 : S_.BroadcastsInDim S1x32 (![] : Fin 0 → Fin S1x32.rank)
  reducesTo_S1x32_S_d0_1 : S1x32.ReducesTo [0, 1] S_

variable [Facts]

def fn_part2 {F : FTy → Type} [FloatOps F] (main_v31 : IVec S_ 1) (main_v34 : IVec S1x32 1) : IVec S_ 1 :=
  let main_c_11 : IVec S_ 1 := constantI S_ 1 1#1
  let main_v35 : IVec S_ 1 := (fun x v => Host.reduce IntOp.andi x v reducesTo_S1x32_S_d0_1 h_S_) main_v34 main_c_11
  let main_v36 : IVec S_ 1 := andi main_v31 main_v35
  main_v36

def fn_part1 {F : FTy → Type} [FloatOps F] (main_arg4 : FVec F S1x32 .f32) (main_arg5 : FVec F S1x32 .f32) (main_arg6 : FVec F S1x32 .f32) (main_v16 : IVec S_ 1) (main_v17 : FVec F S1x32 .f32) : IVec S_ 1 :=
  let main_cst_4 : FVec F S_ .f32 := constant S_ .f32 0x7F800000#32
  let main_v18 : FVec F S1x32 .f32 := broadcastInDim S1x32 ![] bcast_S_S1x32 main_cst_4
  let main_v19 : IVec S1x32 1 := cmpf .olt main_v17 main_v18
  let main_c_5 : IVec S_ 1 := constantI S_ 1 1#1
  let main_v20 : IVec S_ 1 := (fun x v => Host.reduce IntOp.andi x v reducesTo_S1x32_S_d0_1 h_S_) main_v19 main_c_5
  let main_v21 : IVec S_ 1 := andi main_v16 main_v20
  let main_v22 : FVec F S1x32 .f32 := Host.absf main_arg4
  let main_cst_6 : FVec F S_ .f32 := constant S_ .f32 0x7F800000#32
  let main_v23 : FVec F S1x32 .f32 := broadcastInDim S1x32 ![] bcast_S_S1x32 main_cst_6
  let main_v24 : IVec S1x32 1 := cmpf .olt main_v22 main_v23
  let main_c_7 : IVec S_ 1 := constantI S_ 1 1#1
  let main_v25 : IVec S_ 1 := (fun x v => Host.reduce IntOp.andi x v reducesTo_S1x32_S_d0_1 h_S_) main_v24 main_c_7
  let main_v26 : IVec S_ 1 := andi main_v21 main_v25
  let main_v27 : FVec F S1x32 .f32 := Host.absf main_arg5
  let main_cst_8 : FVec F S_ .f32 := constant S_ .f32 0x7F800000#32
  let main_v28 : FVec F S1x32 .f32 := broadcastInDim S1x32 ![] bcast_S_S1x32 main_cst_8
  let main_v29 : IVec S1x32 1 := cmpf .olt main_v27 main_v28
  let main_c_9 : IVec S_ 1 := constantI S_ 1 1#1
  let main_v30 : IVec S_ 1 := (fun x v => Host.reduce IntOp.andi x v reducesTo_S1x32_S_d0_1 h_S_) main_v29 main_c_9
  let main_v31 : IVec S_ 1 := andi main_v26 main_v30
  let main_v32 : FVec F S1x32 .f32 := Host.absf main_arg6
  let main_cst_10 : FVec F S_ .f32 := constant S_ .f32 0x7F800000#32
  let main_v33 : FVec F S1x32 .f32 := broadcastInDim S1x32 ![] bcast_S_S1x32 main_cst_10
  let main_v34 : IVec S1x32 1 := cmpf .olt main_v32 main_v33
  fn_part2 (F := F) main_v31 main_v34

def fn {F : FTy → Type} [FloatOps F] (main_arg0 : FVec F S32x16x512x128 .bf16) (main_arg1 : FVec F S32x4x2048x128 .bf16) (main_arg2 : FVec F S32x16x512x128 .bf16) (main_arg3 : FVec F S1x32 .f32) (main_arg4 : FVec F S1x32 .f32) (main_arg5 : FVec F S1x32 .f32) (main_arg6 : FVec F S1x32 .f32) (main_arg7 : FVec F S1x64 .f32) : IVec S_ 1 :=
  let main_v0 : FVec F S32x16x512x128 .f32 := (extf .f32 · bitsLt_bf16_f32) main_arg0
  let main_v1 : FVec F S32x16x512x128 .f32 := Host.absf main_v0
  let main_cst : FVec F S_ .f32 := constant S_ .f32 0x7F800000#32
  let main_v2 : FVec F S32x16x512x128 .f32 := broadcastInDim S32x16x512x128 ![] bcast_S_S32x16x512x128 main_cst
  let main_v3 : IVec S32x16x512x128 1 := cmpf .olt main_v1 main_v2
  let main_c : IVec S_ 1 := constantI S_ 1 1#1
  let main_v4 : IVec S_ 1 := (fun x v => Host.reduce IntOp.andi x v reducesTo_S32x16x512x128_S_d0_1_2_3 h_S_) main_v3 main_c
  let main_v5 : FVec F S32x4x2048x128 .f32 := (extf .f32 · bitsLt_bf16_f32) main_arg1
  let main_v6 : FVec F S32x4x2048x128 .f32 := Host.absf main_v5
  let main_cst_0 : FVec F S_ .f32 := constant S_ .f32 0x7F800000#32
  let main_v7 : FVec F S32x4x2048x128 .f32 := broadcastInDim S32x4x2048x128 ![] bcast_S_S32x4x2048x128 main_cst_0
  let main_v8 : IVec S32x4x2048x128 1 := cmpf .olt main_v6 main_v7
  let main_c_1 : IVec S_ 1 := constantI S_ 1 1#1
  let main_v9 : IVec S_ 1 := (fun x v => Host.reduce IntOp.andi x v reducesTo_S32x4x2048x128_S_d0_1_2_3 h_S_) main_v8 main_c_1
  let main_v10 : IVec S_ 1 := andi main_v4 main_v9
  let main_v11 : FVec F S32x16x512x128 .f32 := (extf .f32 · bitsLt_bf16_f32) main_arg2
  let main_v12 : FVec F S32x16x512x128 .f32 := Host.absf main_v11
  let main_cst_2 : FVec F S_ .f32 := constant S_ .f32 0x7F800000#32
  let main_v13 : FVec F S32x16x512x128 .f32 := broadcastInDim S32x16x512x128 ![] bcast_S_S32x16x512x128 main_cst_2
  let main_v14 : IVec S32x16x512x128 1 := cmpf .olt main_v12 main_v13
  let main_c_3 : IVec S_ 1 := constantI S_ 1 1#1
  let main_v15 : IVec S_ 1 := (fun x v => Host.reduce IntOp.andi x v reducesTo_S32x16x512x128_S_d0_1_2_3 h_S_) main_v14 main_c_3
  let main_v16 : IVec S_ 1 := andi main_v10 main_v15
  let main_v17 : FVec F S1x32 .f32 := Host.absf main_arg3
  fn_part1 (F := F) main_arg4 main_arg5 main_arg6 main_v16 main_v17
-- ==== Diff.lean ====
abbrev S32x16x512x128 : Shape := ⟨4, ![32, 16, 512, 128]⟩
abbrev S32x4x2048x128 : Shape := ⟨4, ![32, 4, 2048, 128]⟩
abbrev S1x32 : Shape := ⟨2, ![1, 32]⟩
abbrev S1x64 : Shape := ⟨2, ![1, 64]⟩
abbrev S32 : Shape := ⟨1, ![32]⟩
abbrev S64 : Shape := ⟨1, ![64]⟩
abbrev S64x1 : Shape := ⟨2, ![64, 1]⟩
abbrev S1x16x128x128 : Shape := ⟨4, ![1, 16, 128, 128]⟩
abbrev S1x1x2048x128 : Shape := ⟨4, ![1, 1, 2048, 128]⟩
abbrev S2x256x1024 : Shape := ⟨3, ![2, 256, 1024]⟩
abbrev S1 : Shape := ⟨1, ![1]⟩
abbrev S1x1 : Shape := ⟨2, ![1, 1]⟩
abbrev S128x256 : Shape := ⟨2, ![128, 256]⟩
abbrev S256x256 : Shape := ⟨2, ![256, 256]⟩
abbrev S16x256 : Shape := ⟨2, ![16, 256]⟩
abbrev S1x1x128x128 : Shape := ⟨4, ![1, 1, 128, 128]⟩
abbrev S128x128 : Shape := ⟨2, ![128, 128]⟩
abbrev S1x1x256x128 : Shape := ⟨4, ![1, 1, 256, 128]⟩
abbrev S256x128 : Shape := ⟨2, ![256, 128]⟩
abbrev S1x256x256 : Shape := ⟨3, ![1, 256, 256]⟩
abbrev S256 : Shape := ⟨1, ![256]⟩
abbrev S1x256 : Shape := ⟨2, ![1, 256]⟩
abbrev S1x1x64x128 : Shape := ⟨4, ![1, 1, 64, 128]⟩
abbrev S64x128 : Shape := ⟨2, ![64, 128]⟩
abbrev S64x256 : Shape := ⟨2, ![64, 256]⟩
abbrev S80x256 : Shape := ⟨2, ![80, 256]⟩

abbrev nBuf : Space → Nat
  | .hbm => 19
  | .vmem => 15
  | .smem => 0
  | _ => 0

abbrev bufTy : (tb : Table) → Fin (tcTables nBuf tb) → BufTy
  | .hbm, ⟨0, _⟩ => ⟨S32x16x512x128, .bf16⟩
  | .hbm, ⟨1, _⟩ => ⟨S32x4x2048x128, .bf16⟩
  | .hbm, ⟨2, _⟩ => ⟨S32x16x512x128, .bf16⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x64, .f32⟩
  | .hbm, ⟨8, _⟩ => ⟨S32, .f32⟩
  | .hbm, ⟨9, _⟩ => ⟨S1x32, .f32⟩
  | .hbm, ⟨10, _⟩ => ⟨S32, .f32⟩
  | .hbm, ⟨11, _⟩ => ⟨S1x32, .f32⟩
  | .hbm, ⟨12, _⟩ => ⟨S32, .f32⟩
  | .hbm, ⟨13, _⟩ => ⟨S1x32, .f32⟩
  | .hbm, ⟨14, _⟩ => ⟨S32, .f32⟩
  | .hbm, ⟨15, _⟩ => ⟨S1x32, .f32⟩
  | .hbm, ⟨16, _⟩ => ⟨S64, .f32⟩
  | .hbm, ⟨17, _⟩ => ⟨S64x1, .f32⟩
  | .hbm, ⟨18, _⟩ => ⟨S32x4x2048x128, .bf16⟩
  | .local _ .vmem, ⟨0, _⟩ => ⟨S1x16x128x128, .bf16⟩
  | .local _ .vmem, ⟨1, _⟩ => ⟨S1x16x128x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x16x128x128, .bf16⟩
  | .local _ .vmem, ⟨5, _⟩ => ⟨S1x16x128x128, .bf16⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S64x1, .f32⟩
  | .local _ .vmem, ⟨11, _⟩ => ⟨S1x1x2048x128, .bf16⟩
  | .local _ .vmem, ⟨12, _⟩ => ⟨S1x1x2048x128, .bf16⟩
  | .local _ .vmem, ⟨13, _⟩ => ⟨S2x256x1024, .f32⟩
  | .local _ .vmem, ⟨14, _⟩ => ⟨S2x256x1024, .bf16⟩
  | _, _ => ⟨S32x16x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DiffIdeal.lean ====
variable {F : FTy → Type} [FloatOps F] [Named F]
def κ : String → Option EReal := fun
  | "mask" => some ⊥
  | _ => none
-- ==== DiffRefIdeal.lean ====
abbrev S32x16x512x128 : Shape := ⟨4, ![32, 16, 512, 128]⟩
abbrev S32x4x2048x128 : Shape := ⟨4, ![32, 4, 2048, 128]⟩
abbrev S1x32 : Shape := ⟨2, ![1, 32]⟩
abbrev S1x64 : Shape := ⟨2, ![1, 64]⟩
abbrev S32x16x128x512 : Shape := ⟨4, ![32, 16, 128, 512]⟩
abbrev S32x2048x4x2x2x2x16 : Shape := ⟨7, ![32, 2048, 4, 2, 2, 2, 16]⟩
abbrev S32x2048x8x2x32 : Shape := ⟨5, ![32, 2048, 8, 2, 32]⟩
abbrev S32x2048x4x128 : Shape := ⟨4, ![32, 2048, 4, 128]⟩
abbrev S32x2048x8x64 : Shape := ⟨4, ![32, 2048, 8, 64]⟩
abbrev S32 : Shape := ⟨1, ![32]⟩
abbrev S_ : Shape := ⟨0, ![]⟩
abbrev S32x8x2x2048x2048 : Shape := ⟨5, ![32, 8, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2x2048 : Shape := ⟨4, ![32, 8, 2, 2048]⟩
abbrev S32x8x2x2048x1 : Shape := ⟨5, ![32, 8, 2, 2048, 1]⟩
abbrev S32x8x1x2048x2048 : Shape := ⟨5, ![32, 8, 1, 2048, 2048]⟩
abbrev S32x8x2048x2048 : Shape := ⟨4, ![32, 8, 2048, 2048]⟩
abbrev S32x8x64x2048 : Shape := ⟨4, ![32, 8, 64, 2048]⟩
abbrev S32x2048x8 : Shape := ⟨3, ![32, 2048, 8]⟩
abbrev S32x2048x8x1 : Shape := ⟨4, ![32, 2048, 8, 1]⟩
abbrev S64 : Shape := ⟨1, ![64]⟩
abbrev S1x1x1x64 : Shape := ⟨4, ![1, 1, 1, 64]⟩

abbrev nBuf : Space → Nat
  | .hbm => 116
  | .vmem => 0
  | .smem => 0
  | _ => 0

abbrev bufTy : (tb : Table) → Fin (tcTables nBuf tb) → BufTy
  | .hbm, ⟨0, _⟩ => ⟨S32x16x512x128, .bf16⟩
  | .hbm, ⟨1, _⟩ => ⟨S32x4x2048x128, .bf16⟩
  | .hbm, ⟨2, _⟩ => ⟨S32x16x512x128, .bf16⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x64, .f32⟩
  | .hbm, ⟨8, _⟩ => ⟨S32x16x512x128, .f32⟩
  | .hbm, ⟨9, _⟩ => ⟨S32x16x128x512, .f32⟩
  | .hbm, ⟨10, _⟩ => ⟨S32x2048x4x2x2x2x16, .f32⟩
  | .hbm, ⟨11, _⟩ => ⟨S32x2048x4x2x2x2x16, .f32⟩
  | .hbm, ⟨12, _⟩ => ⟨S32x2048x8x2x32, .f32⟩
  | .hbm, ⟨13, _⟩ => ⟨S32x4x2048x128, .f32⟩
  | .hbm, ⟨14, _⟩ => ⟨S32x2048x4x128, .f32⟩
  | .hbm, ⟨15, _⟩ => ⟨S32x2048x4x2x2x2x16, .f32⟩
  | .hbm, ⟨16, _⟩ => ⟨S32x2048x4x2x2x2x16, .f32⟩
  | .hbm, ⟨17, _⟩ => ⟨S32x2048x8x2x32, .f32⟩
  | .hbm, ⟨18, _⟩ => ⟨S32x16x512x128, .f32⟩
  | .hbm, ⟨19, _⟩ => ⟨S32x16x128x512, .f32⟩
  | .hbm, ⟨20, _⟩ => ⟨S32x2048x8x64, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S32x8x2x2048x2048, .f32⟩
  | .hbm, ⟨37, _⟩ => ⟨S_, .f32⟩
  | .hbm, ⟨38, _⟩ => ⟨S_, .f32⟩
  | .hbm, ⟨39, _⟩ => ⟨S32x8x2x2048x2048, .f32⟩
  | .hbm, ⟨40, _⟩ => ⟨S32x8x2x2048x2048, .f32⟩
  | .hbm, ⟨41, _⟩ => ⟨S2048, .i32⟩
  | .hbm, ⟨42, _⟩ => ⟨S_, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S2048, .i1⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .i32⟩
  | .hbm, ⟨60, _⟩ => ⟨S1x2048, .i32⟩
  | .hbm, ⟨61, _⟩ => ⟨S2048x1, .i32⟩
  | .hbm, ⟨62, _⟩ => ⟨S2048x2048, .i32⟩
  | .hbm, ⟨63, _⟩ => ⟨S2048x2048, .i32⟩
  | .hbm, ⟨64, _⟩ => ⟨S2048x2048, .i1⟩
  | .hbm, ⟨65, _⟩ => ⟨S_, .f32⟩
  | .hbm, ⟨66, _⟩ => ⟨S_, .f32⟩
  | .hbm, ⟨67, _⟩ => ⟨S32x8x2x2048x2048, .i1⟩
  | .hbm, ⟨68, _⟩ => ⟨S32x8x2x2048x2048, .f32⟩
  | .hbm, ⟨69, _⟩ => ⟨S32x8x2x2048x2048, .f32⟩
  | .hbm, ⟨70, _⟩ => ⟨S_, .f32⟩
  | .hbm, ⟨71, _⟩ => ⟨S32x8x2x2048, .f32⟩
  | .hbm, ⟨72, _⟩ => ⟨S_, .f32⟩
  | .hbm, ⟨73, _⟩ => ⟨S32x8x2x2048, .f32⟩
  | .hbm, ⟨74, _⟩ => ⟨S32x8x2x2048, .f32⟩
  | .hbm, ⟨75, _⟩ => ⟨S32x8x2x2048x1, .f32⟩
  | .hbm, ⟨76, _⟩ => ⟨S32x8x2x2048x2048, .f32⟩
  | .hbm, ⟨77, _⟩ => ⟨S32x8x2x2048x2048, .f32⟩
  | .hbm, ⟨78, _⟩ => ⟨S32x8x2x2048x2048, .f32⟩
  | .hbm, ⟨79, _⟩ => ⟨S_, .f32⟩
  | .hbm, ⟨80, _⟩ => ⟨S32x8x2x2048, .f32⟩
  | .hbm, ⟨81, _⟩ => ⟨S32x8x2x2048x1, .f32⟩
  | .hbm, ⟨82, _⟩ => ⟨S32x8x2x2048x2048, .f32⟩
  | .hbm, ⟨83, _⟩ => ⟨S32x8x2x2048x2048, .f32⟩
  | .hbm, ⟨84, _⟩ => ⟨S32x8x1x2048x2048, .f32⟩
  | .hbm, ⟨85, _⟩ => ⟨S32x8x2048x2048, .f32⟩
  | .hbm, ⟨86, _⟩ => ⟨S32x8x1x2048x2048, .f32⟩
  | .hbm, ⟨87, _⟩ => ⟨S32x8x2048x2048, .f32⟩
  | .hbm, ⟨88, _⟩ => ⟨S32x8x2048x2048, .f32⟩
  | .hbm, ⟨89, _⟩ => ⟨S32x8x2048x2048, .f32⟩
  | .hbm, ⟨90, _⟩ => ⟨S32x8x2048x2048, .f32⟩
  | .hbm, ⟨91, _⟩ => ⟨S32x8x64x2048, .f32⟩
  | .hbm, ⟨92, _⟩ => ⟨S32x2048x8x64, .f32⟩
  | .hbm, ⟨93, _⟩ => ⟨S32x2048x8x64, .f32⟩
  | .hbm, ⟨94, _⟩ => ⟨S_, .f32⟩
  | .hbm, ⟨95, _⟩ => ⟨S32x2048x8, .f32⟩
  | .hbm, ⟨96, _⟩ => ⟨S32x2048x8x1, .f32⟩
  | .hbm, ⟨97, _⟩ => ⟨S_, .f32⟩
  | .hbm, ⟨98, _⟩ => ⟨S32x2048x8x1, .f32⟩
  | .hbm, ⟨99, _⟩ => ⟨S32x2048x8x1, .f32⟩
  | .hbm, ⟨100, _⟩ => ⟨S_, .f32⟩
  | .hbm, ⟨101, _⟩ => ⟨S32x2048x8x1, .f32⟩
  | .hbm, ⟨102, _⟩ => ⟨S32x2048x8x1, .f32⟩
  | .hbm, ⟨103, _⟩ => ⟨S32x2048x8x1, .f32⟩
  | .hbm, ⟨104, _⟩ => ⟨S32x2048x8x64, .f32⟩
  | .hbm, ⟨105, _⟩ => ⟨S32x2048x8x64, .f32⟩
  | .hbm, ⟨106, _⟩ => ⟨S64, .f32⟩
  | .hbm, ⟨107, _⟩ => ⟨S1x1x1x64, .f32⟩
  | .hbm, ⟨108, _⟩ => ⟨S32x2048x8x64, .f32⟩
  | .hbm, ⟨109, _⟩ => ⟨S32x2048x8x64, .f32⟩
  | .hbm, ⟨110, _⟩ => ⟨S_, .f32⟩
  | .hbm, ⟨111, _⟩ => ⟨S32x2048x8x64, .f32⟩
  | .hbm, ⟨112, _⟩ => ⟨S32x2048x8x64, .f32⟩
  | .hbm, ⟨113, _⟩ => ⟨S32x2048x4x128, .f32⟩
  | .hbm, ⟨114, _⟩ => ⟨S32x4x2048x128, .f32⟩
  | .hbm, ⟨115, _⟩ => ⟨S32x4x2048x128, .bf16⟩
  | _, _ => ⟨S32x16x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_c : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_0 : Ref sig .tc := ⟨.hbm, 56, rfl⟩
abbrev main_call0_v12 : Ref sig .tc := ⟨.hbm, 57, rfl⟩
abbrev main_call0_v13 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v36 : Ref sig .tc := ⟨.hbm, 69, rfl⟩
abbrev main_cst_4 : Ref sig .tc := ⟨.hbm, 70, rfl⟩
abbrev main_v37 : Ref sig .tc := ⟨.hbm, 71, rfl⟩
abbrev main_cst_5 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_6 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_7 : Ref sig .tc := ⟨.hbm, 94, rfl⟩
abbrev main_v58 : Ref sig .tc := ⟨.hbm, 95, rfl⟩
abbrev main_v59 : Ref sig .tc := ⟨.hbm, 96, rfl⟩
abbrev main_cst_8 : Ref sig .tc := ⟨.hbm, 97, rfl⟩
abbrev main_v60 : Ref sig .tc := ⟨.hbm, 98, rfl⟩
abbrev main_v61 : Ref sig .tc := ⟨.hbm, 99, rfl⟩
abbrev main_cst_9 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_10 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩

abbrev nD : Nat := 1
abbrev τ : Topo := Topo.v7x

variable {F : FTy → Type} [FloatOps F]
-- ==== Mlp.lean ====
abbrev S32x2048x1024 : Shape := ⟨3, ![32, 2048, 1024]⟩
abbrev S32x4x2048x128 : Shape := ⟨4, ![32, 4, 2048, 128]⟩
abbrev S1x1024x1024 : Shape := ⟨3, ![1, 1024, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S65536x1024 : Shape := ⟨2, ![65536, 1024]⟩
abbrev S512x1024 : Shape := ⟨2, ![512, 1024]⟩
abbrev S1024x4096 : Shape := ⟨2, ![1024, 4096]⟩
abbrev S4096x1024 : Shape := ⟨2, ![4096, 1024]⟩
abbrev S1x4x1024x128 : Shape := ⟨4, ![1, 4, 1024, 128]⟩
abbrev S1x1x512x128 : Shape := ⟨4, ![1, 1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x4x2048x128, .bf16⟩
  | .hbm, ⟨2, _⟩ => ⟨S32x4x2048x128, .bf16⟩
  | .hbm, ⟨3, _⟩ => ⟨S1x1024x1024, .f32⟩
  | .hbm, ⟨4, _⟩ => ⟨S1x1024, .f32⟩
  | .hbm, ⟨5, _⟩ => ⟨S1024, .f32⟩
  | .hbm, ⟨6, _⟩ => ⟨S1x1024x4096, .f32⟩
  | .hbm, ⟨7, _⟩ => ⟨S1x4096x1024, .f32⟩
  | .hbm, ⟨8, _⟩ => ⟨S1024x1024, .f32⟩
  | .hbm, ⟨9, _⟩ => ⟨S1024x1024, .bf16⟩
  | .hbm, ⟨10, _⟩ => ⟨S65536x1024, .f32⟩
  | .hbm, ⟨11, _⟩ => ⟨S512x1024, .bf16⟩
  | .hbm, ⟨12, _⟩ => ⟨S512x1024, .bf16⟩
  | .hbm, ⟨13, _⟩ => ⟨S1024, .f32⟩
  | .hbm, ⟨14, _⟩ => ⟨S1x1024, .f32⟩
  | .hbm, ⟨15, _⟩ => ⟨S1024x4096, .f32⟩
  | .hbm, ⟨16, _⟩ => ⟨S1024x4096, .bf16⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x4x1024x128, .bf16⟩
  | .local _ .vmem, ⟨3, _⟩ => ⟨S1x4x1024x128, .bf16⟩
  | .local _ .vmem, ⟨4, _⟩ => ⟨S1x4x1024x128, .bf16⟩
  | .local _ .vmem, ⟨5, _⟩ => ⟨S1x4x1024x128, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlpRefIdeal.lean ====
abbrev S32x2048x1024 : Shape := ⟨3, ![32, 2048, 1024]⟩
abbrev S32x4x2048x128 : Shape := ⟨4, ![32, 4, 2048, 128]⟩
abbrev S1x1024x1024 : Shape := ⟨3, ![1, 1024, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S32x2048x4x128 : Shape := ⟨4, ![32, 2048, 4, 128]⟩
abbrev S32x2048x512 : Shape := ⟨3, ![32, 2048, 512]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4096 : Shape := ⟨2, ![1024, 4096]⟩
abbrev S32x2048x4096 : Shape := ⟨3, ![32, 2048, 4096]⟩
abbrev S4096x1024 : Shape := ⟨2, ![4096, 1024]⟩
abbrev S65536x1024 : Shape := ⟨2, ![65536, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x4x2048x128, .bf16⟩
  | .hbm, ⟨2, _⟩ => ⟨S32x4x2048x128, .bf16⟩
  | .hbm, ⟨3, _⟩ => ⟨S1x1024x1024, .f32⟩
  | .hbm, ⟨4, _⟩ => ⟨S1x1024, .f32⟩
  | .hbm, ⟨5, _⟩ => ⟨S1024, .f32⟩
  | .hbm, ⟨6, _⟩ => ⟨S1x1024x4096, .f32⟩
  | .hbm, ⟨7, _⟩ => ⟨S1x4096x1024, .f32⟩
  | .hbm, ⟨8, _⟩ => ⟨S32x4x2048x128, .f32⟩
  | .hbm, ⟨9, _⟩ => ⟨S32x2048x4x128, .f32⟩
  | .hbm, ⟨10, _⟩ => ⟨S32x2048x512, .f32⟩
  | .hbm, ⟨11, _⟩ => ⟨S32x4x2048x128, .f32⟩
  | .hbm, ⟨12, _⟩ => ⟨S32x2048x4x128, .f32⟩
  | .hbm, ⟨13, _⟩ => ⟨S32x2048x512, .f32⟩
  | .hbm, ⟨14, _⟩ => ⟨S32x2048x1024, .f32⟩
  | .hbm, ⟨15, _⟩ => ⟨S1024x1024, .f32⟩
  | .hbm, ⟨16, _⟩ => ⟨S32x2048x1024, .f32⟩
  | .hbm, ⟨17, _⟩ => ⟨S32x2048x1024, .f32⟩
  | .hbm, ⟨18, _⟩ => ⟨S1024, .f32⟩
  | .hbm, ⟨19, _⟩ => ⟨S32x2048x1024, .f32⟩
  | .hbm, ⟨20, _⟩ => ⟨S_, .f32⟩
  | .hbm, ⟨21, _⟩ => ⟨S32x2048, .f32⟩
  | .hbm, ⟨22, _⟩ => ⟨S32x2048x1, .f32⟩
  | .hbm, ⟨23, _⟩ => ⟨S_, .f32⟩
  | .hbm, ⟨24, _⟩ => ⟨S32x2048x1, .f32⟩
  | .hbm, ⟨25, _⟩ => ⟨S32x2048x1, .f32⟩
  | .hbm, ⟨26, _⟩ => ⟨S_, .f32⟩
  | .hbm, ⟨27, _⟩ => ⟨S32x2048x1, .f32⟩
  | .hbm, ⟨28, _⟩ => ⟨S32x2048x1, .f32⟩
  | .hbm, ⟨29, _⟩ => ⟨S32x2048x1, .f32⟩
  | .hbm, ⟨30, _⟩ => ⟨S32x2048x1024, .f32⟩
  | .hbm, ⟨31, _⟩ => ⟨S32x2048x1024, .f32⟩
  | .hbm, ⟨32, _⟩ => ⟨S1x1x1024, .f32⟩
  | .hbm, ⟨33, _⟩ => ⟨S32x2048x1024, .f32⟩
  | .hbm, ⟨34, _⟩ => ⟨S32x2048x1024, .f32⟩
  | .hbm, ⟨35, _⟩ => ⟨S1024x4096, .f32⟩
  | .hbm, ⟨36, _⟩ => ⟨S32x2048x4096, .f32⟩
  | .hbm, ⟨37, _⟩ => ⟨S_, .f32⟩
  | .hbm, ⟨38, _⟩ => ⟨S32x2048x4096, .f32⟩
  | .hbm, ⟨39, _⟩ => ⟨S32x2048x4096, .f32⟩
  | .hbm, ⟨40, _⟩ => ⟨S32x2048x4096, .f32⟩
  | .hbm, ⟨41, _⟩ => ⟨S4096x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S_, .f32⟩
  | .hbm, ⟨46, _⟩ => ⟨S32x2048, .f32⟩
  | .hbm, ⟨47, _⟩ => ⟨S32x2048x1, .f32⟩
  | .hbm, ⟨48, _⟩ => ⟨S_, .f32⟩
  | .hbm, ⟨49, _⟩ => ⟨S32x2048x1, .f32⟩
  | .hbm, ⟨50, _⟩ => ⟨S32x2048x1, .f32⟩
  | .hbm, ⟨51, _⟩ => ⟨S_, .f32⟩
  | .hbm, ⟨52, _⟩ => ⟨S32x2048x1, .f32⟩
  | .hbm, ⟨53, _⟩ => ⟨S32x2048x1, .f32⟩
  | .hbm, ⟨54, _⟩ => ⟨S32x2048x1, .f32⟩
  | .hbm, ⟨55, _⟩ => ⟨S32x2048x1024, .f32⟩
  | .hbm, ⟨56, _⟩ => ⟨S32x2048x1024, .f32⟩
  | .hbm, ⟨57, _⟩ => ⟨S1x1x1024, .f32⟩
  | .hbm, ⟨58, _⟩ => ⟨S32x2048x1024, .f32⟩
  | .hbm, ⟨59, _⟩ => ⟨S32x2048x1024, .f32⟩
  | .hbm, ⟨60, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Proj.lean ====
abbrev S32x2048x1024 : Shape := ⟨3, ![32, 2048, 1024]⟩
abbrev S1x1024x3072 : Shape := ⟨3, ![1, 1024, 3072]⟩
abbrev S1x1024 : Shape := ⟨2, ![1, 1024]⟩
abbrev S1024x3072 : Shape := ⟨2, ![1024, 3072]⟩
abbrev S1024x512 : Shape := ⟨2, ![1024, 512]⟩
abbrev S1024x4x4x2x16 : Shape := ⟨5, ![1024, 4, 4, 2, 16]⟩
abbrev S1024x4x2x4x16 : Shape := ⟨5, ![1024, 4, 2, 4, 16]⟩
abbrev S1024x2048 : Shape := ⟨2, ![1024, 2048]⟩
abbrev S2048x1024 : Shape := ⟨2, ![2048, 1024]⟩
abbrev S1024x1024 : Shape := ⟨2, ![1024, 1024]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S16x2048 : Shape := ⟨2, ![16, 2048]⟩
abbrev S1x16x1x2048 : Shape := ⟨4, ![1, 16, 1, 2048]⟩
abbrev S4x16x1x2048 : Shape := ⟨4, ![4, 16, 1, 2048]⟩
abbrev S64x2048 : Shape := ⟨2, ![64, 2048]⟩
abbrev S1x2048x1x16 : Shape := ⟨4, ![1, 2048, 1, 16]⟩
abbrev S1x2048x8x16 : Shape := ⟨4, ![1, 2048, 8, 16]⟩
abbrev S2048x128 : Shape := ⟨2, ![2048, 128]⟩
abbrev S128 : Shape := ⟨1, ![128]⟩
abbrev S1x128 : Shape := ⟨2, ![1, 128]⟩
abbrev S1024 : Shape := ⟨1, ![1024]⟩
abbrev S32x16x512x128 : Shape := ⟨4, ![32, 16, 512, 128]⟩
abbrev S32x4x2048x128 : Shape := ⟨4, ![32, 4, 2048, 128]⟩
abbrev S1x1024x1024 : Shape := ⟨3, ![1, 1024, 1024]⟩
abbrev S64x1024 : Shape := ⟨2, ![64, 1024]⟩
abbrev S1024x128 : Shape := ⟨2, ![1024, 128]⟩
abbrev S1x8x512x128 : Shape := ⟨4, ![1, 8, 512, 128]⟩
abbrev S1x4x1024x128 : Shape := ⟨4, ![1, 4, 1024, 128]⟩
abbrev S1024x1 : Shape := ⟨2, ![1024, 1]⟩
abbrev S64x128 : Shape := ⟨2, ![64, 128]⟩
abbrev S1x1x64x128 : Shape := ⟨4, ![1, 1, 64, 128]⟩
abbrev S512x1024 : Shape := ⟨2, ![512, 1024]⟩
abbrev S512x128 : Shape := ⟨2, ![512, 128]⟩
abbrev S1x1x512x128 : Shape := ⟨4, ![1, 1, 512, 128]⟩
abbrev S1x1x1024x128 : Shape := ⟨4, ![1, 1, 1024, 128]⟩

abbrev nBuf : Space → Nat
  | .hbm => 79
  | .vmem => 25
  | .smem => 0
  | _ => 0

abbrev bufTy : (tb : Table) → Fin (tcTables nBuf tb) → BufTy
  | .hbm, ⟨0, _⟩ => ⟨S32x2048x1024, .f32⟩
  | .hbm, ⟨1, _⟩ => ⟨S1x1024x3072, .f32⟩
  | .hbm, ⟨2, _⟩ => ⟨S1x1024, .f32⟩
  | .hbm, ⟨3, _⟩ => ⟨S1024x3072, .f32⟩
  | .hbm, ⟨4, _⟩ => ⟨S1024x512, .f32⟩
  | .hbm, ⟨5, _⟩ => ⟨S1024x4x4x2x16, .f32⟩
  | .hbm, ⟨6, _⟩ => ⟨S1024x4x2x4x16, .f32⟩
  | .hbm, ⟨7, _⟩ => ⟨S1024x512, .f32⟩
  | .hbm, ⟨8, _⟩ => ⟨S1024x512, .f32⟩
  | .hbm, ⟨9, _⟩ => ⟨S1024x4x4x2x16, .f32⟩
  | .hbm, ⟨10, _⟩ => ⟨S1024x4x2x4x16, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x2048, .f32⟩
  | .hbm, ⟨16, _⟩ => ⟨S2048x1024, .f32⟩
  | .hbm, ⟨17, _⟩ => ⟨S2048x1024, .bf16⟩
  | .hbm, ⟨18, _⟩ => ⟨S1024x512, .f32⟩
  | .hbm, ⟨19, _⟩ => ⟨S1024x1024, .f32⟩
  | .hbm, ⟨20, _⟩ => ⟨S1024x1024, .bf16⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S2048, .i32⟩
  | .hbm, ⟨30, _⟩ => ⟨S2048, .f32⟩
  | .hbm, ⟨31, _⟩ => ⟨S2048x1, .f32⟩
  | .hbm, ⟨32, _⟩ => ⟨S1x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S2048x16, .f32⟩
  | .hbm, ⟨38, _⟩ => ⟨S16x2048, .f32⟩
  | .hbm, ⟨39, _⟩ => ⟨S1x16x1x2048, .f32⟩
  | .hbm, ⟨40, _⟩ => ⟨S4x16x1x2048, .f32⟩
  | .hbm, ⟨41, _⟩ => ⟨S64x2048, .f32⟩
  | .hbm, ⟨42, _⟩ => ⟨S_, .f32⟩
  | .hbm, ⟨43, _⟩ => ⟨S64x2048, .f32⟩
  | .hbm, ⟨44, _⟩ => ⟨S64x2048, .f32⟩
  | .hbm, ⟨45, _⟩ => ⟨S16x2048, .f32⟩
  | .hbm, ⟨46, _⟩ => ⟨S1x16x1x2048, .f32⟩
  | .hbm, ⟨47, _⟩ => ⟨S4x16x1x2048, .f32⟩
  | .hbm, ⟨48, _⟩ => ⟨S64x2048, .f32⟩
  | .hbm, ⟨49, _⟩ => ⟨S_, .f32⟩
  | .hbm, ⟨50, _⟩ => ⟨S64x2048, .f32⟩
  | .hbm, ⟨51, _⟩ => ⟨S64x2048, .f32⟩
  | .hbm, ⟨52, _⟩ => ⟨S1x2048x1x16, .f32⟩
  | .hbm, ⟨53, _⟩ => ⟨S1x2048x8x16, .f32⟩
  | .hbm, ⟨54, _⟩ => ⟨S2048x128, .f32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S_, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S1x2048x1x16, .f32⟩
  | .hbm, ⟨66, _⟩ => ⟨S1x2048x8x16, .f32⟩
  | .hbm, ⟨67, _⟩ => ⟨S2048x128, .f32⟩
  | .hbm, ⟨68, _⟩ => ⟨S1x128, .f32⟩
  | .hbm, ⟨69, _⟩ => ⟨S2048x128, .f32⟩
  | .hbm, ⟨70, _⟩ => ⟨S2048x128, .f32⟩
  | .hbm, ⟨71, _⟩ => ⟨S1024, .f32⟩
  | .hbm, ⟨72, _⟩ => ⟨S1x1024, .f32⟩
  | .hbm, ⟨73, _⟩ => ⟨S32x16x512x128, .bf16⟩
  | .hbm, ⟨74, _⟩ => ⟨S32x16x512x128, .bf16⟩
  | .hbm, ⟨75, _⟩ => ⟨S32x16x512x128, .bf16⟩
  | .hbm, ⟨76, _⟩ => ⟨S32x16x512x128, .bf16⟩
  | .hbm, ⟨77, _⟩ => ⟨S32x4x2048x128, .bf16⟩
  | .hbm, ⟨78, _⟩ => ⟨S32x4x2048x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S2048x1024, .bf16⟩
  | .local _ .vmem, ⟨4, _⟩ => ⟨S1024x1024, .bf16⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x8x512x128, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x4x1024x128, .bf16⟩
  | .local _ .vmem, ⟨22, _⟩ => ⟨S1x4x1024x128, .bf16⟩
  | .local _ .vmem, ⟨23, _⟩ => ⟨S1x4x1024x128, .bf16⟩
  | .local _ .vmem, ⟨24, _⟩ => ⟨S1x4x1024x128, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_c : Ref sig .tc := ⟨.hbm, 56, rfl⟩
abbrev main_v49 : Ref sig .tc := ⟨.hbm, 57, rfl⟩
abbrev main_v50 : Ref sig .tc := ⟨.hbm, 58, rfl⟩
abbrev main_cst_3 : Ref sig .tc := ⟨.hbm, 59, rfl⟩
abbrev main_cst_4 : Ref sig .tc := ⟨.hbm, 60, rfl⟩
abbrev main_call0_v0 : Ref sig .tc := ⟨.hbm, 61, rfl⟩
abbrev main_call0_v1 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61_0 : Ref sig .tc := ⟨.hbm, 73, rfl⟩
abbrev main_v61_1 : Ref sig .tc := ⟨.hbm, 74, rfl⟩
abbrev main_v61_2 : Ref sig .tc := ⟨.hbm, 75, rfl⟩
abbrev main_v61_3 : Ref sig .tc := ⟨.hbm, 76, rfl⟩
abbrev main_v61_4 : Ref sig .tc := ⟨.hbm, 77, rfl⟩
abbrev main_v61_5 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjRefIdeal.lean ====
abbrev S32x2048x1024 : Shape := ⟨3, ![32, 2048, 1024]⟩
abbrev S1x1024x3072 : Shape := ⟨3, ![1, 1024, 3072]⟩
abbrev S1x1024 : Shape := ⟨2, ![1, 1024]⟩
abbrev S2048 : Shape := ⟨1, ![2048]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x3072 : Shape := ⟨2, ![1024, 3072]⟩
abbrev S32x2048x3072 : Shape := ⟨3, ![32, 2048, 3072]⟩
abbrev S32x2048x512 : Shape := ⟨3, ![32, 2048, 512]⟩
abbrev S32x2048x16x32 : Shape := ⟨4, ![32, 2048, 16, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S32x2048x16x16 : Shape := ⟨4, ![32, 2048, 16, 16]⟩
abbrev S1x2048x1x16 : Shape := ⟨4, ![1, 2048, 1, 16]⟩
abbrev S32x2048x4x4x2x16 : Shape := ⟨6, ![32, 2048, 4, 4, 2, 16]⟩
abbrev S32x2048x4x2x4x16 : Shape := ⟨6, ![32, 2048, 4, 2, 4, 16]⟩
abbrev S32x16x128x512 : Shape := ⟨4, ![32, 16, 128, 512]⟩
abbrev S32x16x512x128 : Shape := ⟨4, ![32, 16, 512, 128]⟩
abbrev S32x2048x4x128 : Shape := ⟨4, ![32, 2048, 4, 128]⟩
abbrev S32x4x2048x128 : Shape := ⟨4, ![32, 4, 2048, 128]⟩

abbrev nBuf : Space → Nat
  | .hbm => 131
  | .vmem => 0
  | .smem => 0
  | _ => 0

abbrev hbmTy0_0 (i : Nat) : BufTy := match i % 128 with
  | 0 => ⟨S32x2048x1024, .f32⟩
  | 1 => ⟨S1x1024x3072, .f32⟩
  | 2 => ⟨S1x1024, .f32⟩
  | 3 => ⟨S2048, .i32⟩
  | 4 => ⟨S1024, .f32⟩
  | 5 => ⟨S32x2048x1024, .f32⟩
  | 6 => ⟨S_, .f32⟩
  | 7 => ⟨S32x2048, .f32⟩
  | 8 => ⟨S32x2048x1, .f32⟩
  | 9 => ⟨S_, .f32⟩
  | 10 => ⟨S32x2048x1, .f32⟩
  | 11 => ⟨S32x2048x1, .f32⟩
  | 12 => ⟨S_, .f32⟩
  | 13 => ⟨S32x2048x1, .f32⟩
  | 14 => ⟨S32x2048x1, .f32⟩
  | 15 => ⟨S32x2048x1, .f32⟩
  | 16 => ⟨S32x2048x1024, .f32⟩
  | 17 => ⟨S32x2048x1024, .f32⟩
  | 18 => ⟨S1x1x1024, .f32⟩
  | 19 => ⟨S32x2048x1024, .f32⟩
  | 20 => ⟨S32x2048x1024, .f32⟩
  | 21 => ⟨S1024x3072, .f32⟩
  | 22 => ⟨S32x2048x3072, .f32⟩
  | 23 => ⟨S32x2048x512, .f32⟩
  | 24 => ⟨S32x2048x512, .f32⟩
  | 25 => ⟨S32x2048x512, .f32⟩
  | 26 => ⟨S32x2048x512, .f32⟩
  | 27 => ⟨S32x2048x512, .f32⟩
  | 28 => ⟨S32x2048x512, .f32⟩
  | 29 => ⟨S32x2048x16x32, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S2048, .f32⟩
  | 39 => ⟨S2048x1, .f32⟩
  | 40 => ⟨S1x16, .f32⟩
  | 41 => ⟨S2048x16, .f32⟩
  | 42 => ⟨S2048x16, .f32⟩
  | 43 => ⟨S2048x16, .f32⟩
  | 44 => ⟨S2048x16, .f32⟩
  | 45 => ⟨S2048x1x16, .f32⟩
  | 46 => ⟨S2048x16, .f32⟩
  | 47 => ⟨S2048x1x16, .f32⟩
  | 48 => ⟨S32x2048x16x16, .f32⟩
  | 49 => ⟨S32x2048x16x16, .f32⟩
  | 50 => ⟨S1x2048x1x16, .f32⟩
  | 51 => ⟨S32x2048x16x16, .f32⟩
  | 52 => ⟨S32x2048x16x16, .f32⟩
  | 53 => ⟨S1x2048x1x16, .f32⟩
  | 54 => ⟨S32x2048x16x16, .f32⟩
  | 55 => ⟨S32x2048x16x16, .f32⟩
  | 56 => ⟨S32x2048x16x16, .f32⟩
  | 57 => ⟨S1x2048x1x16, .f32⟩
  | 58 => ⟨S32x2048x16x16, .f32⟩
  | 59 => ⟨S32x2048x16x16, .f32⟩
  | 60 => ⟨S1x2048x1x16, .f32⟩
  | 61 => ⟨S32x2048x16x16, .f32⟩
  | 62 => ⟨S32x2048x16x16, .f32⟩
  | 63 => ⟨S32x2048x16x16, .f32⟩
  | 64 => ⟨S32x2048x16x32, .f32⟩
  | 65 => ⟨S32x2048x16x32, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S2048, .f32⟩
  | 75 => ⟨S2048x1, .f32⟩
  | 76 => ⟨S1x16, .f32⟩
  | 77 => ⟨S2048x16, .f32⟩
  | 78 => ⟨S2048x16, .f32⟩
  | 79 => ⟨S2048x16, .f32⟩
  | 80 => ⟨S2048x16, .f32⟩
  | 81 => ⟨S2048x1x16, .f32⟩
  | 82 => ⟨S2048x16, .f32⟩
  | 83 => ⟨S2048x1x16, .f32⟩
  | 84 => ⟨S32x2048x16x16, .f32⟩
  | 85 => ⟨S32x2048x16x16, .f32⟩
  | 86 => ⟨S1x2048x1x16, .f32⟩
  | 87 => ⟨S32x2048x16x16, .f32⟩
  | 88 => ⟨S32x2048x16x16, .f32⟩
  | 89 => ⟨S1x2048x1x16, .f32⟩
  | 90 => ⟨S32x2048x16x16, .f32⟩
  | 91 => ⟨S32x2048x16x16, .f32⟩
  | 92 => ⟨S32x2048x16x16, .f32⟩
  | 93 => ⟨S1x2048x1x16, .f32⟩
  | 94 => ⟨S32x2048x16x16, .f32⟩
  | 95 => ⟨S32x2048x16x16, .f32⟩
  | 96 => ⟨S1x2048x1x16, .f32⟩
  | 97 => ⟨S32x2048x16x16, .f32⟩
  | 98 => ⟨S32x2048x16x16, .f32⟩
  | 99 => ⟨S32x2048x16x16, .f32⟩
  | 100 => ⟨S32x2048x16x32, .f32⟩
  | 101 => ⟨S_, .f32⟩
  | 102 => ⟨S32x2048x16x32, .f32⟩
  | 103 => ⟨S32x2048x16x32, .f32⟩
  | 104 => ⟨S_, .f32⟩
  | 105 => ⟨S32x2048x512, .f32⟩
  | 106 => ⟨S32x2048x512, .f32⟩
  | 107 => ⟨S32x2048x4x4x2x16, .f32⟩
  | 108 => ⟨S32x2048x4x2x4x16, .f32⟩
  | 109 => ⟨S32x2048x512, .f32⟩
  | 110 => ⟨S32x16x128x512, .f32⟩
  | 111 => ⟨S32x16x512x128, .f32⟩
  | 112 => ⟨S32x16x512x128, .bf16⟩
  | 113 => ⟨S32x16x128x512, .f32⟩
  | 114 => ⟨S32x16x512x128, .f32⟩
  | 115 => ⟨S32x16x512x128, .bf16⟩
  | 116 => ⟨S32x16x128x512, .f32⟩
  | 117 => ⟨S32x16x512x128, .f32⟩
  | 118 => ⟨S32x16x512x128, .bf16⟩
  | 119 => ⟨S32x16x128x512, .f32⟩
  | 120 => ⟨S32x16x512x128, .f32⟩
  | 121 => ⟨S32x16x512x128, .bf16⟩
  | 122 => ⟨S32x2048x4x4x2x16, .f32⟩
  | 123 => ⟨S32x2048x4x2x4x16, .f32⟩
  | 124 => ⟨S32x2048x512, .f32⟩
  | 125 => ⟨S32x2048x4x128, .f32⟩
  | 126 => ⟨S32x4x2048x128, .f32⟩
  | 127 => ⟨S32x4x2048x128, .bf16⟩
  | _ => ⟨S32x2048x1024, .f32⟩

abbrev hbmTy0_1 (i : Nat) : BufTy := match i % 128 with
  | 0 => ⟨S32x2048x4x128, .f32⟩
  | 1 => ⟨S32x4x2048x128, .f32⟩
  | 2 => ⟨S32x4x2048x128, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_cst_6 : Ref sig .tc := ⟨.hbm, 101, rfl⟩
abbrev main_v91 : Ref sig .tc := ⟨.hbm, 102, rfl⟩
abbrev main_v92 : Ref sig .tc := ⟨.hbm, 103, rfl⟩
abbrev main_cst_7 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩

abbrev nD : Nat := 1
abbrev τ : Topo := Topo.v7x

variable {F : FTy → Type} [FloatOps F]
-- ==== Band.lean ====
abbrev S32x16x512x128 : Shape := ⟨4, ![32, 16, 512, 128]⟩
abbrev S32x4x2048x128 : Shape := ⟨4, ![32, 4, 2048, 128]⟩
abbrev S1x8x513 : Shape := ⟨3, ![1, 8, 513]⟩
abbrev S8x513 : Shape := ⟨2, ![8, 513]⟩
abbrev S_ : Shape := ⟨0, ![]⟩
abbrev S8x1 : Shape := ⟨2, ![8, 1]⟩
abbrev S8x384 : Shape := ⟨2, ![8, 384]⟩
abbrev S8x1281 : Shape := ⟨2, ![8, 1281]⟩
abbrev S8x640 : Shape := ⟨2, ![8, 640]⟩
abbrev S8x1x640 : Shape := ⟨3, ![8, 1, 640]⟩
abbrev S8x16x640 : Shape := ⟨3, ![8, 16, 640]⟩
abbrev S8x128x640 : Shape := ⟨3, ![8, 128, 640]⟩
abbrev S8x128x5x128 : Shape := ⟨4, ![8, 128, 5, 128]⟩
abbrev S8x5x128x128 : Shape := ⟨4, ![8, 5, 128, 128]⟩
abbrev S8x640x128 : Shape := ⟨3, ![8, 640, 128]⟩
abbrev S640 : Shape := ⟨1, ![640]⟩
abbrev S640x1 : Shape := ⟨2, ![640, 1]⟩
abbrev S128 : Shape := ⟨1, ![128]⟩
abbrev S1x128 : Shape := ⟨2, ![1, 128]⟩
abbrev S640x128 : Shape := ⟨2, ![640, 128]⟩
abbrev S1x640x128 : Shape := ⟨3, ![1, 640, 128]⟩
abbrev S4x2x640x128 : Shape := ⟨4, ![4, 2, 640, 128]⟩
abbrev S4x640x2x128 : Shape := ⟨4, ![4, 640, 2, 128]⟩
abbrev S4x640x256 : Shape := ⟨3, ![4, 640, 256]⟩
abbrev S1x16x512x128 : Shape := ⟨4, ![1, 16, 512, 128]⟩
abbrev S1x4x2048x128 : Shape := ⟨4, ![1, 4, 2048, 128]⟩
abbrev S2x4x640x256 : Shape := ⟨4, ![2, 4, 640, 256]⟩
abbrev S128x128 : Shape := ⟨2, ![128, 128]⟩
abbrev S1x1x128x128 : Shape := ⟨4, ![1, 1, 128, 128]⟩
abbrev S128x256 : Shape := ⟨2, ![128, 256]⟩
abbrev S1x128x256 : Shape := ⟨3, ![1, 128, 256]⟩
abbrev S1x1x128x256 : Shape := ⟨4, ![1, 1, 128, 256]⟩
abbrev S256 : Shape := ⟨1, ![256]⟩
abbrev S1x256 : Shape := ⟨2, ![1, 256]⟩
abbrev S1x1x256x128 : Shape := ⟨4, ![1, 1, 256, 128]⟩
abbrev S256x128 : Shape := ⟨2, ![256, 128]⟩
abbrev S256x256 : Shape := ⟨2, ![256, 256]⟩
abbrev S1x256x256 : Shape := ⟨3, ![1, 256, 256]⟩
abbrev S1x1x256x256 : Shape := ⟨4, ![1, 1, 256, 256]⟩
abbrev S16x128 : Shape := ⟨2, ![16, 128]⟩
abbrev S1x1x64x128 : Shape := ⟨4, ![1, 1, 64, 128]⟩
abbrev S64x128 : Shape := ⟨2, ![64, 128]⟩
abbrev S160x128 : Shape := ⟨2, ![160, 128]⟩
abbrev S160x256 : Shape := ⟨2, ![160, 256]⟩
abbrev S80x128 : Shape := ⟨2, ![80, 128]⟩
abbrev S16x256 : Shape := ⟨2, ![16, 256]⟩
abbrev S64x256 : Shape := ⟨2, ![64, 256]⟩

abbrev nBuf : Space → Nat
  | .hbm => 345
  | .vmem => 11
  | .smem => 0
  | _ => 0

abbrev hbmTy0_0 (i : Nat) : BufTy := match i % 128 with
  | 0 => ⟨S32x16x512x128, .bf16⟩
  | 1 => ⟨S32x4x2048x128, .bf16⟩
  | 2 => ⟨S32x16x512x128, .bf16⟩
  | 3 => ⟨S1x8x513, .f32⟩
  | 4 => ⟨S8x513, .f32⟩
  | 5 => ⟨S_, .f32⟩
  | 6 => ⟨S8x513, .f32⟩
  | 7 => ⟨S8x513, .f32⟩
  | 8 => ⟨S8x1, .f32⟩
  | 9 => ⟨S8x384, .f32⟩
  | 10 => ⟨S8x1, .f32⟩
  | 11 => ⟨S8x384, .f32⟩
  | 12 => ⟨S8x1281, .f32⟩
  | 13 => ⟨S8x640, .f32⟩
  | 14 => ⟨S8x640, .f32⟩
  | 15 => ⟨S8x640, .f32⟩
  | 16 => ⟨S8x640, .f32⟩
  | 17 => ⟨S8x640, .f32⟩
  | 18 => ⟨S8x640, .f32⟩
  | 19 => ⟨S8x640, .f32⟩
  | 20 => ⟨S8x640, .f32⟩
  | 21 => ⟨S8x640, .f32⟩
  | 22 => ⟨S8x640, .f32⟩
  | 23 => ⟨S8x640, .f32⟩
  | 24 => ⟨S8x640, .f32⟩
  | 25 => ⟨S8x640, .f32⟩
  | 26 => ⟨S8x640, .f32⟩
  | 27 => ⟨S8x640, .f32⟩
  | 28 => ⟨S8x640, .f32⟩
  | 29 => ⟨S8x640, .f32⟩
  | 30 => ⟨S8x640, .f32⟩
  | 31 => ⟨S8x640, .f32⟩
  | 32 => ⟨S8x640, .f32⟩
  | 33 => ⟨S8x640, .f32⟩
  | 34 => ⟨S8x640, .f32⟩
  | 35 => ⟨S8x640, .f32⟩
  | 36 => ⟨S8x640, .f32⟩
  | 37 => ⟨S8x640, .f32⟩
  | 38 => ⟨S8x640, .f32⟩
  | 39 => ⟨S8x640, .f32⟩
  | 40 => ⟨S8x640, .f32⟩
  | 41 => ⟨S8x640, .f32⟩
  | 42 => ⟨S8x640, .f32⟩
  | 43 => ⟨S8x640, .f32⟩
  | 44 => ⟨S8x640, .f32⟩
  | 45 => ⟨S8x640, .f32⟩
  | 46 => ⟨S8x640, .f32⟩
  | 47 => ⟨S8x640, .f32⟩
  | 48 => ⟨S8x640, .f32⟩
  | 49 => ⟨S8x640, .f32⟩
  | 50 => ⟨S8x640, .f32⟩
  | 51 => ⟨S8x640, .f32⟩
  | 52 => ⟨S8x640, .f32⟩
  | 53 => ⟨S8x640, .f32⟩
  | 54 => ⟨S8x640, .f32⟩
  | 55 => ⟨S8x640, .f32⟩
  | 56 => ⟨S8x640, .f32⟩
  | 57 => ⟨S8x640, .f32⟩
  | 58 => ⟨S8x640, .f32⟩
  | 59 => ⟨S8x640, .f32⟩
  | 60 => ⟨S8x640, .f32⟩
  | 61 => ⟨S8x640, .f32⟩
  | 62 => ⟨S8x640, .f32⟩
  | 63 => ⟨S8x640, .f32⟩
  | 64 => ⟨S8x640, .f32⟩
  | 65 => ⟨S8x640, .f32⟩
  | 66 => ⟨S8x640, .f32⟩
  | 67 => ⟨S8x640, .f32⟩
  | 68 => ⟨S8x640, .f32⟩
  | 69 => ⟨S8x640, .f32⟩
  | 70 => ⟨S8x640, .f32⟩
  | 71 => ⟨S8x640, .f32⟩
  | 72 => ⟨S8x640, .f32⟩
  | 73 => ⟨S8x640, .f32⟩
  | 74 => ⟨S8x640, .f32⟩
  | 75 => ⟨S8x640, .f32⟩
  | 76 => ⟨S8x640, .f32⟩
  | 77 => ⟨S8x640, .f32⟩
  | 78 => ⟨S8x640, .f32⟩
  | 79 => ⟨S8x640, .f32⟩
  | 80 => ⟨S8x640, .f32⟩
  | 81 => ⟨S8x640, .f32⟩
  | 82 => ⟨S8x640, .f32⟩
  | 83 => ⟨S8x640, .f32⟩
  | 84 => ⟨S8x640, .f32⟩
  | 85 => ⟨S8x640, .f32⟩
  | 86 => ⟨S8x640, .f32⟩
  | 87 => ⟨S8x640, .f32⟩
  | 88 => ⟨S8x640, .f32⟩
  | 89 => ⟨S8x640, .f32⟩
  | 90 => ⟨S8x640, .f32⟩
  | 91 => ⟨S8x640, .f32⟩
  | 92 => ⟨S8x640, .f32⟩
  | 93 => ⟨S8x640, .f32⟩
  | 94 => ⟨S8x640, .f32⟩
  | 95 => ⟨S8x640, .f32⟩
  | 96 => ⟨S8x640, .f32⟩
  | 97 => ⟨S8x640, .f32⟩
  | 98 => ⟨S8x640, .f32⟩
  | 99 => ⟨S8x640, .f32⟩
  | 100 => ⟨S8x640, .f32⟩
  | 101 => ⟨S8x640, .f32⟩
  | 102 => ⟨S8x640, .f32⟩
  | 103 => ⟨S8x640, .f32⟩
  | 104 => ⟨S8x640, .f32⟩
  | 105 => ⟨S8x640, .f32⟩
  | 106 => ⟨S8x640, .f32⟩
  | 107 => ⟨S8x640, .f32⟩
  | 108 => ⟨S8x640, .f32⟩
  | 109 => ⟨S8x640, .f32⟩
  | 110 => ⟨S8x640, .f32⟩
  | 111 => ⟨S8x640, .f32⟩
  | 112 => ⟨S8x640, .f32⟩
  | 113 => ⟨S8x640, .f32⟩
  | 114 => ⟨S8x640, .f32⟩
  | 115 => ⟨S8x640, .f32⟩
  | 116 => ⟨S8x640, .f32⟩
  | 117 => ⟨S8x640, .f32⟩
  | 118 => ⟨S8x640, .f32⟩
  | 119 => ⟨S8x640, .f32⟩
  | 120 => ⟨S8x640, .f32⟩
  | 121 => ⟨S8x640, .f32⟩
  | 122 => ⟨S8x640, .f32⟩
  | 123 => ⟨S8x640, .f32⟩
  | 124 => ⟨S8x640, .f32⟩
  | 125 => ⟨S8x640, .f32⟩
  | 126 => ⟨S8x640, .f32⟩
  | 127 => ⟨S8x640, .f32⟩
  | _ => ⟨S32x16x512x128, .bf16⟩

abbrev hbmTy0_1 (i : Nat) : BufTy := match i % 128 with
  | 0 => ⟨S8x640, .f32⟩
  | 1 => ⟨S8x640, .f32⟩
  | 2 => ⟨S8x640, .f32⟩
  | 3 => ⟨S8x640, .f32⟩
  | 4 => ⟨S8x640, .f32⟩
  | 5 => ⟨S8x640, .f32⟩
  | 6 => ⟨S8x640, .f32⟩
  | 7 => ⟨S8x640, .f32⟩
  | 8 => ⟨S8x640, .f32⟩
  | 9 => ⟨S8x640, .f32⟩
  | 10 => ⟨S8x640, .f32⟩
  | 11 => ⟨S8x640, .f32⟩
  | 12 => ⟨S8x640, .f32⟩
  | 13 => ⟨S8x1x640, .f32⟩
  | 14 => ⟨S8x1x640, .f32⟩
  | 15 => ⟨S8x1x640, .f32⟩
  | 16 => ⟨S8x1x640, .f32⟩
  | 17 => ⟨S8x1x640, .f32⟩
  | 18 => ⟨S8x1x640, .f32⟩
  | 19 => ⟨S8x1x640, .f32⟩
  | 20 => ⟨S8x1x640, .f32⟩
  | 21 => ⟨S8x1x640, .f32⟩
  | 22 => ⟨S8x1x640, .f32⟩
  | 23 => ⟨S8x1x640, .f32⟩
  | 24 => ⟨S8x1x640, .f32⟩
  | 25 => ⟨S8x1x640, .f32⟩
  | 26 => ⟨S8x1x640, .f32⟩
  | 27 => ⟨S8x1x640, .f32⟩
  | 28 => ⟨S8x1x640, .f32⟩
  | 29 => ⟨S8x1x640, .f32⟩
  | 30 => ⟨S8x1x640, .f32⟩
  | 31 => ⟨S8x1x640, .f32⟩
  | 32 => ⟨S8x1x640, .f32⟩
  | 33 => ⟨S8x1x640, .f32⟩
  | 34 => ⟨S8x1x640, .f32⟩
  | 35 => ⟨S8x1x640, .f32⟩
  | 36 => ⟨S8x1x640, .f32⟩
  | 37 => ⟨S8x1x640, .f32⟩
  | 38 => ⟨S8x1x640, .f32⟩
  | 39 => ⟨S8x1x640, .f32⟩
  | 40 => ⟨S8x1x640, .f32⟩
  | 41 => ⟨S8x1x640, .f32⟩
  | 42 => ⟨S8x1x640, .f32⟩
  | 43 => ⟨S8x1x640, .f32⟩
  | 44 => ⟨S8x1x640, .f32⟩
  | 45 => ⟨S8x1x640, .f32⟩
  | 46 => ⟨S8x1x640, .f32⟩
  | 47 => ⟨S8x1x640, .f32⟩
  | 48 => ⟨S8x1x640, .f32⟩
  | 49 => ⟨S8x1x640, .f32⟩
  | 50 => ⟨S8x1x640, .f32⟩
  | 51 => ⟨S8x1x640, .f32⟩
  | 52 => ⟨S8x1x640, .f32⟩
  | 53 => ⟨S8x1x640, .f32⟩
  | 54 => ⟨S8x1x640, .f32⟩
  | 55 => ⟨S8x1x640, .f32⟩
  | 56 => ⟨S8x1x640, .f32⟩
  | 57 => ⟨S8x1x640, .f32⟩
  | 58 => ⟨S8x1x640, .f32⟩
  | 59 => ⟨S8x1x640, .f32⟩
  | 60 => ⟨S8x1x640, .f32⟩
  | 61 => ⟨S8x1x640, .f32⟩
  | 62 => ⟨S8x1x640, .f32⟩
  | 63 => ⟨S8x1x640, .f32⟩
  | 64 => ⟨S8x1x640, .f32⟩
  | 65 => ⟨S8x1x640, .f32⟩
  | 66 => ⟨S8x1x640, .f32⟩
  | 67 => ⟨S8x1x640, .f32⟩
  | 68 => ⟨S8x1x640, .f32⟩
  | 69 => ⟨S8x1x640, .f32⟩
  | 70 => ⟨S8x1x640, .f32⟩
  | 71 => ⟨S8x1x640, .f32⟩
  | 72 => ⟨S8x1x640, .f32⟩
  | 73 => ⟨S8x1x640, .f32⟩
  | 74 => ⟨S8x1x640, .f32⟩
  | 75 => ⟨S8x1x640, .f32⟩
  | 76 => ⟨S8x1x640, .f32⟩
  | 77 => ⟨S8x1x640, .f32⟩
  | 78 => ⟨S8x1x640, .f32⟩
  | 79 => ⟨S8x1x640, .f32⟩
  | 80 => ⟨S8x1x640, .f32⟩
  | 81 => ⟨S8x1x640, .f32⟩
  | 82 => ⟨S8x1x640, .f32⟩
  | 83 => ⟨S8x1x640, .f32⟩
  | 84 => ⟨S8x1x640, .f32⟩
  | 85 => ⟨S8x1x640, .f32⟩
  | 86 => ⟨S8x1x640, .f32⟩
  | 87 => ⟨S8x1x640, .f32⟩
  | 88 => ⟨S8x1x640, .f32⟩
  | 89 => ⟨S8x1x640, .f32⟩
  | 90 => ⟨S8x1x640, .f32⟩
  | 91 => ⟨S8x1x640, .f32⟩
  | 92 => ⟨S8x1x640, .f32⟩
  | 93 => ⟨S8x1x640, .f32⟩
  | 94 => ⟨S8x1x640, .f32⟩
  | 95 => ⟨S8x1x640, .f32⟩
  | 96 => ⟨S8x1x640, .f32⟩
  | 97 => ⟨S8x1x640, .f32⟩
  | 98 => ⟨S8x1x640, .f32⟩
  | 99 => ⟨S8x1x640, .f32⟩
  | 100 => ⟨S8x1x640, .f32⟩
  | 101 => ⟨S8x1x640, .f32⟩
  | 102 => ⟨S8x1x640, .f32⟩
  | 103 => ⟨S8x1x640, .f32⟩
  | 104 => ⟨S8x1x640, .f32⟩
  | 105 => ⟨S8x1x640, .f32⟩
  | 106 => ⟨S8x1x640, .f32⟩
  | 107 => ⟨S8x1x640, .f32⟩
  | 108 => ⟨S8x1x640, .f32⟩
  | 109 => ⟨S8x1x640, .f32⟩
  | 110 => ⟨S8x1x640, .f32⟩
  | 111 => ⟨S8x1x640, .f32⟩
  | 112 => ⟨S8x1x640, .f32⟩
  | 113 => ⟨S8x1x640, .f32⟩
  | 114 => ⟨S8x1x640, .f32⟩
  | 115 => ⟨S8x1x640, .f32⟩
  | 116 => ⟨S8x1x640, .f32⟩
  | 117 => ⟨S8x1x640, .f32⟩
  | 118 => ⟨S8x1x640, .f32⟩
  | 119 => ⟨S8x1x640, .f32⟩
  | 120 => ⟨S8x1x640, .f32⟩
  | 121 => ⟨S8x1x640, .f32⟩
  | 122 => ⟨S8x1x640, .f32⟩
  | 123 => ⟨S8x1x640, .f32⟩
  | 124 => ⟨S8x1x640, .f32⟩
  | 125 => ⟨S8x1x640, .f32⟩
  | 126 => ⟨S8x1x640, .f32⟩
  | 127 => ⟨S8x1x640, .f32⟩
  | _ => ⟨S32x16x512x128, .bf16⟩

abbrev hbmTy0_2 (i : Nat) : BufTy := match i % 128 with
  | 0 => ⟨S8x1x640, .f32⟩
  | 1 => ⟨S8x1x640, .f32⟩
  | 2 => ⟨S8x1x640, .f32⟩
  | 3 => ⟨S8x1x640, .f32⟩
  | 4 => ⟨S8x1x640, .f32⟩
  | 5 => ⟨S8x1x640, .f32⟩
  | 6 => ⟨S8x1x640, .f32⟩
  | 7 => ⟨S8x1x640, .f32⟩
  | 8 => ⟨S8x1x640, .f32⟩
  | 9 => ⟨S8x1x640, .f32⟩
  | 10 => ⟨S8x1x640, .f32⟩
  | 11 => ⟨S8x1x640, .f32⟩
  | 12 => ⟨S8x1x640, .f32⟩
  | 13 => ⟨S8x16x640, .f32⟩
  | 14 => ⟨S8x16x640, .f32⟩
  | 15 => ⟨S8x16x640, .f32⟩
  | 16 => ⟨S8x16x640, .f32⟩
  | 17 => ⟨S8x16x640, .f32⟩
  | 18 => ⟨S8x16x640, .f32⟩
  | 19 => ⟨S8x16x640, .f32⟩
  | 20 => ⟨S8x16x640, .f32⟩
  | 21 => ⟨S8x128x640, .f32⟩
  | 22 => ⟨S8x128x5x128, .f32⟩
  | 23 => ⟨S8x128x5x128, .f32⟩
  | 24 => ⟨S8x5x128x128, .f32⟩
  | 25 => ⟨S8x640x128, .f32⟩
  | 26 => ⟨S640, .i32⟩
  | 27 => ⟨S640x1, .i32⟩
  | 28 => ⟨S128, .i32⟩
  | 29 => ⟨S1x128, .i32⟩
  | 30 => ⟨S_, .i32⟩
  | 31 => ⟨S1x128, .i32⟩
  | 32 => ⟨S1x128, .i32⟩
  | 33 => ⟨S_, .i32⟩
  | 34 => ⟨S_, .i32⟩
  | 35 => ⟨S1x128, .i32⟩
  | 36 => ⟨S1x128, .i32⟩
  | 37 => ⟨S1x128, .i32⟩
  | 38 => ⟨S_, .i32⟩
  | 39 => ⟨S1x128, .i32⟩
  | 40 => ⟨S1x128, .i1⟩
  | 41 => ⟨S1x128, .i32⟩
  | 42 => ⟨S1x128, .i32⟩
  | 43 => ⟨S_, .i32⟩
  | 44 => ⟨S1x128, .i32⟩
  | 45 => ⟨S1x128, .i1⟩
  | 46 => ⟨S1x128, .i1⟩
  | 47 => ⟨S_, .i32⟩
  | 48 => ⟨S1x128, .i32⟩
  | 49 => ⟨S1x128, .i32⟩
  | 50 => ⟨S1x128, .i32⟩
  | 51 => ⟨S_, .i32⟩
  | 52 => ⟨S_, .i32⟩
  | 53 => ⟨S640x1, .i32⟩
  | 54 => ⟨S640x1, .i32⟩
  | 55 => ⟨S640x1, .i32⟩
  | 56 => ⟨S_, .i32⟩
  | 57 => ⟨S640x1, .i32⟩
  | 58 => ⟨S640x1, .i1⟩
  | 59 => ⟨S640x1, .i32⟩
  | 60 => ⟨S640x1, .i32⟩
  | 61 => ⟨S_, .i32⟩
  | 62 => ⟨S640x1, .i32⟩
  | 63 => ⟨S640x1, .i1⟩
  | 64 => ⟨S640x1, .i1⟩
  | 65 => ⟨S_, .i32⟩
  | 66 => ⟨S640x1, .i32⟩
  | 67 => ⟨S640x1, .i32⟩
  | 68 => ⟨S640x1, .i32⟩
  | 69 => ⟨S640x128, .i32⟩
  | 70 => ⟨S640x128, .i32⟩
  | 71 => ⟨S640x128, .i32⟩
  | 72 => ⟨S_, .i32⟩
  | 73 => ⟨S640x128, .i32⟩
  | 74 => ⟨S640x128, .i1⟩
  | 75 => ⟨S_, .i32⟩
  | 76 => ⟨S640x128, .i32⟩
  | 77 => ⟨S640x128, .i1⟩
  | 78 => ⟨S640x128, .i1⟩
  | 79 => ⟨S1x640x128, .i1⟩
  | 80 => ⟨S_, .f32⟩
  | 81 => ⟨S_, .f32⟩
  | 82 => ⟨S8x640x128, .i1⟩
  | 83 => ⟨S8x640x128, .f32⟩
  | 84 => ⟨S8x640x128, .f32⟩
  | 85 => ⟨S4x2x640x128, .f32⟩
  | 86 => ⟨S4x640x2x128, .f32⟩
  | 87 => ⟨S4x640x256, .f32⟩
  | 88 => ⟨S32x4x2048x128, .bf16⟩
  | _ => ⟨S32x16x512x128, .bf16⟩

abbrev hbmTy (i : Nat) : BufTy := match i / 128 with
  | 0 => hbmTy0_0 i
  | 1 => hbmTy0_1 i
  | 2 => hbmTy0_2 i
  | _ => ⟨S32x16x512x128, .bf16⟩

abbrev bufTy : (tb : Table) → Fin (tcTables nBuf tb) → BufTy
  | .hbm, ⟨i, _⟩ => hbmTy i
  | .local _ .vmem, ⟨0, _⟩ => ⟨S1x16x512x128, .bf16⟩
  | .local _ .vmem, ⟨1, _⟩ => ⟨S1x16x512x128, .bf16⟩
  | .local _ .vmem, ⟨2, _⟩ => ⟨S1x4x2048x128, .bf16⟩
  | .local _ .vmem, ⟨3, _⟩ => ⟨S1x4x2048x128, .bf16⟩
  | .local _ .vmem, ⟨4, _⟩ => ⟨S1x16x512x128, .bf16⟩
  | .local _ .vmem, ⟨5, _⟩ => ⟨S1x16x512x128, .bf16⟩
  | .local _ .vmem, ⟨6, _⟩ => ⟨S4x640x256, .f32⟩
  | .local _ .vmem, ⟨7, _⟩ => ⟨S1x4x2048x128, .bf16⟩
  | .local _ .vmem, ⟨8, _⟩ => ⟨S1x4x2048x128, .bf16⟩
  | .local _ .vmem, ⟨9, _⟩ => ⟨S2x4x640x256, .f32⟩
  | .local _ .vmem, ⟨10, _⟩ => ⟨S2x4x640x256, .bf16⟩
  | _, _ => ⟨S32x16x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩
abbrev main_v226 : Ref sig .tc := ⟨.hbm, 231, rfl⟩
abbrev main_v227 : Ref sig .tc := ⟨.hbm, 232, rfl⟩
abbrev main_v228 : Ref sig .tc := ⟨.hbm, 233, rfl⟩
abbrev main_v229 : Ref sig .tc := ⟨.hbm, 234, rfl⟩
abbrev main_v230 : Ref sig .tc := ⟨.hbm, 235, rfl⟩
abbrev main_v231 : Ref sig .tc := ⟨.hbm, 236, rfl⟩
abbrev main_v232 : Ref sig .tc := ⟨.hbm, 237, rfl⟩
abbrev main_v233 : Ref sig .tc := ⟨.hbm, 238, rfl⟩
abbrev main_v234 : Ref sig .tc := ⟨.hbm, 239, rfl⟩
abbrev main_v235 : Ref sig .tc := ⟨.hbm, 240, rfl⟩
abbrev main_v236 : Ref sig .tc := ⟨.hbm, 241, rfl⟩
abbrev main_v237 : Ref sig .tc := ⟨.hbm, 242, rfl⟩
abbrev main_v238 : Ref sig .tc := ⟨.hbm, 243, rfl⟩
abbrev main_v239 : Ref sig .tc := ⟨.hbm, 244, rfl⟩
abbrev main_v240 : Ref sig .tc := ⟨.hbm, 245, rfl⟩
abbrev main_v241 : Ref sig .tc := ⟨.hbm, 246, rfl⟩
abbrev main_v242 : Ref sig .tc := ⟨.hbm, 247, rfl⟩
abbrev main_v243 : Ref sig .tc := ⟨.hbm, 248, rfl⟩
abbrev main_v244 : Ref sig .tc := ⟨.hbm, 249, rfl⟩
abbrev main_v245 : Ref sig .tc := ⟨.hbm, 250, rfl⟩
abbrev main_v246 : Ref sig .tc := ⟨.hbm, 251, rfl⟩
abbrev main_v247 : Ref sig .tc := ⟨.hbm, 252, rfl⟩
abbrev main_v248 : Ref sig .tc := ⟨.hbm, 253, rfl⟩
abbrev main_v249 : Ref sig .tc := ⟨.hbm, 254, rfl⟩
abbrev main_v250 : Ref sig .tc := ⟨.hbm, 255, rfl⟩
abbrev main_v251 : Ref sig .tc := ⟨.hbm, 256, rfl⟩
abbrev main_v252 : Ref sig .tc := ⟨.hbm, 257, rfl⟩
abbrev main_v253 : Ref sig .tc := ⟨.hbm, 258, rfl⟩
abbrev main_v254 : Ref sig .tc := ⟨.hbm, 259, rfl⟩
abbrev main_v255 : Ref sig .tc := ⟨.hbm, 260, rfl⟩
abbrev main_v256 : Ref sig .tc := ⟨.hbm, 261, rfl⟩
abbrev main_v257 : Ref sig .tc := ⟨.hbm, 262, rfl⟩
abbrev main_v258 : Ref sig .tc := ⟨.hbm, 263, rfl⟩
abbrev main_v259 : Ref sig .tc := ⟨.hbm, 264, rfl⟩
abbrev main_v260 : Ref sig .tc := ⟨.hbm, 265, rfl⟩
abbrev main_v261 : Ref sig .tc := ⟨.hbm, 266, rfl⟩
abbrev main_v262 : Ref sig .tc := ⟨.hbm, 267, rfl⟩
abbrev main_v263 : Ref sig .tc := ⟨.hbm, 268, rfl⟩
abbrev main_v264 : Ref sig .tc := ⟨.hbm, 269, rfl⟩
abbrev main_v265 : Ref sig .tc := ⟨.hbm, 270, rfl⟩
abbrev main_v266 : Ref sig .tc := ⟨.hbm, 271, rfl⟩
abbrev main_v267 : Ref sig .tc := ⟨.hbm, 272, rfl⟩
abbrev main_v268 : Ref sig .tc := ⟨.hbm, 273, rfl⟩
abbrev main_v269 : Ref sig .tc := ⟨.hbm, 274, rfl⟩
abbrev main_v270 : Ref sig .tc := ⟨.hbm, 275, rfl⟩
abbrev main_v271 : Ref sig .tc := ⟨.hbm, 276, rfl⟩
abbrev main_v272 : Ref sig .tc := ⟨.hbm, 277, rfl⟩
abbrev main_v273 : Ref sig .tc := ⟨.hbm, 278, rfl⟩
abbrev main_v274 : Ref sig .tc := ⟨.hbm, 279, rfl⟩
abbrev main_v275 : Ref sig .tc := ⟨.hbm, 280, rfl⟩
abbrev main_v276 : Ref sig .tc := ⟨.hbm, 281, rfl⟩
abbrev main_v277 : Ref sig .tc := ⟨.hbm, 282, rfl⟩
abbrev main_v278 : Ref sig .tc := ⟨.hbm, 283, rfl⟩
abbrev main_v279 : Ref sig .tc := ⟨.hbm, 284, rfl⟩
abbrev main_v280 : Ref sig .tc := ⟨.hbm, 285, rfl⟩
abbrev main_c : Ref sig .tc := ⟨.hbm, 286, rfl⟩
abbrev main_v281 : Ref sig .tc := ⟨.hbm, 287, rfl⟩
abbrev main_v282 : Ref sig .tc := ⟨.hbm, 288, rfl⟩
abbrev main_c_0 : Ref sig .tc := ⟨.hbm, 289, rfl⟩
abbrev main_call0_v0 : Ref sig .tc := ⟨.hbm, 290, rfl⟩
abbrev main_call0_v1 : Ref sig .tc := ⟨.hbm, 291, rfl⟩
abbrev main_call0_v2 : Ref sig .tc := ⟨.hbm, 292, rfl⟩
abbrev main_call0_v3 : Ref sig .tc := ⟨.hbm, 293, rfl⟩
abbrev main_call0_v4 : Ref sig .tc := ⟨.hbm, 294, rfl⟩
abbrev main_call0_v5 : Ref sig .tc := ⟨.hbm, 295, rfl⟩
abbrev main_call0_v6 : Ref sig .tc := ⟨.hbm, 296, rfl⟩
abbrev main_call0_v7 : Ref sig .tc := ⟨.hbm, 297, rfl⟩
abbrev main_call0_v8 : Ref sig .tc := ⟨.hbm, 298, rfl⟩
abbrev main_call0_c : Ref sig .tc := ⟨.hbm, 299, rfl⟩
abbrev main_call0_v9 : Ref sig .tc := ⟨.hbm, 300, rfl⟩
abbrev main_call0_v10 : Ref sig .tc := ⟨.hbm, 301, rfl⟩
abbrev main_call0_v11 : Ref sig .tc := ⟨.hbm, 302, rfl⟩
abbrev main_call0_c_0 : Ref sig .tc := ⟨.hbm, 303, rfl⟩
abbrev main_call0_v12 : Ref sig .tc := ⟨.hbm, 304, rfl⟩
abbrev main_call0_v13 : Ref sig .tc := ⟨.hbm, 305, rfl⟩
abbrev main_v283 : Ref sig .tc := ⟨.hbm, 306, rfl⟩
abbrev main_c_1 : Ref sig .tc := ⟨.hbm, 307, rfl⟩
abbrev main_call1_v0 : Ref sig .tc := ⟨.hbm, 308, rfl⟩
abbrev main_call1_v1 : Ref sig .tc := ⟨.hbm, 309, rfl⟩
abbrev main_call1_v2 : Ref sig .tc := ⟨.hbm, 310, rfl⟩
abbrev main_call1_v3 : Ref sig .tc := ⟨.hbm, 311, rfl⟩
abbrev main_call1_v4 : Ref sig .tc := ⟨.hbm, 312, rfl⟩
abbrev main_call1_v5 : Ref sig .tc := ⟨.hbm, 313, rfl⟩
abbrev main_call1_v6 : Ref sig .tc := ⟨.hbm, 314, rfl⟩
abbrev main_call1_v7 : Ref sig .tc := ⟨.hbm, 315, rfl⟩
abbrev main_call1_v8 : Ref sig .tc := ⟨.hbm, 316, rfl⟩
abbrev main_call1_c : Ref sig .tc := ⟨.hbm, 317, rfl⟩
abbrev main_call1_v9 : Ref sig .tc := ⟨.hbm, 318, rfl⟩
abbrev main_call1_v10 : Ref sig .tc := ⟨.hbm, 319, rfl⟩
abbrev main_call1_v11 : Ref sig .tc := ⟨.hbm, 320, rfl⟩
abbrev main_call1_c_0 : Ref sig .tc := ⟨.hbm, 321, rfl⟩
abbrev main_call1_v12 : Ref sig .tc := ⟨.hbm, 322, rfl⟩
abbrev main_call1_v13 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_c_2 : Ref sig .tc := ⟨.hbm, 328, rfl⟩
abbrev main_v288 : Ref sig .tc := ⟨.hbm, 329, rfl⟩
abbrev main_v289 : Ref sig .tc := ⟨.hbm, 330, rfl⟩
abbrev main_c_3 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_cst_4 : Ref sig .tc := ⟨.hbm, 336, rfl⟩
abbrev main_call2_v0 : Ref sig .tc := ⟨.hbm, 337, rfl⟩
abbrev main_call2_v1 : Ref sig .tc := ⟨.hbm, 338, rfl⟩
abbrev main_call2_v2 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x640x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x4x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Proof.MlpRow.lean ====
/- Hand-written, untrusted: the arithmetic of one row of the output projection and the feed-forward layer,
   as plain functions on rows, and what the kernel's payloads and the reference's terms are at an index. -/
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MlpRow

/-- The residual row: the layer's input plus the output projection of the two mixers' rows. -/
def res (X : Fin 1024 → EReal) (A B : Fin 512 → EReal) (WA WB : Fin 512 → Fin 1024 → EReal) (d : Fin 1024) : EReal :=
  X d + ∑ k : Fin 512, A k * WA k d + ∑ k : Fin 512, B k * WB k d

/-- Root mean square normalisation of a row with a gain. -/
def nrm (y g : Fin 1024 → EReal) (d : Fin 1024) : EReal :=
  y d * Ideal.rsqrt (Ideal.div (∑ k : Fin 1024, y k * y k) (Ideal.ofBits .f32 0x44800000#32) + Ideal.ofBits .f32 0x358637BD#32) * g d

/-- One hidden unit: the squared rectified projection of the normalised row. -/
def hid (h : Fin 1024 → EReal) {n : ℕ} (W : Fin 1024 → Fin n → EReal) (e : Fin n) : EReal :=
  max (∑ k : Fin 1024, h k * W k e) 0 * max (∑ k : Fin 1024, h k * W k e) 0

/-- The feed-forward row. -/
def ff (h : Fin 1024 → EReal) (W1 : Fin 1024 → Fin 4096 → EReal) (W2 : Fin 4096 → Fin 1024 → EReal) (d : Fin 1024) : EReal :=
  ∑ e : Fin 4096, hid h W1 e * W2 e d

/-- A chunk of 1024 hidden units of the feed-forward row. -/
def ffc (h : Fin 1024 → EReal) (W1 W2 : Fin 1024 → Fin 1024 → EReal) (d : Fin 1024) : EReal :=
  ∑ e : Fin 1024, hid h W1 e * W2 e d

/-- The whole row. -/
def row (X : Fin 1024 → EReal) (A B : Fin 512 → EReal) (WA WB : Fin 512 → Fin 1024 → EReal) (g2 gf : Fin 1024 → EReal)
    (W1 : Fin 1024 → Fin 4096 → EReal) (W2 : Fin 4096 → Fin 1024 → EReal) : Fin 1024 → EReal :=
  nrm (fun d => res X A B WA WB d + ff (nrm (res X A B WA WB) g2) W1 W2 d) gf

/-- The feed-forward row is the sum of its four chunks. -/
theorem ff_chunks (h : Fin 1024 → EReal) (W1 : Fin 1024 → Fin 4096 → EReal) (W2 : Fin 4096 → Fin 1024 → EReal) (d : Fin 1024) :
    ff h W1 W2 d = ffc h (fun k e => W1 k ⟨e, by omega⟩) (fun e d => W2 ⟨e, by omega⟩ d) d
      + ffc h (fun k e => W1 k ⟨1024 + e, by omega⟩) (fun e d => W2 ⟨1024 + e, by omega⟩ d) d
      + ffc h (fun k e => W1 k ⟨2048 + e, by omega⟩) (fun e d => W2 ⟨2048 + e, by omega⟩ d) d
      + ffc h (fun k e => W1 k ⟨3072 + e, by omega⟩) (fun e d => W2 ⟨3072 + e, by omega⟩ d) d := by
  unfold ff
  rw [Fin.sum_univ_tiles 4 1024 rfl, Fin.sum_univ_four]
  simp only [ffc, hid]
  congr <;> (funext e; simp)

end Cert.MlpRow
end
-- ==== Proof.MlpPure.lean ====
/- Hand-written, untrusted: the kernel's payloads at an index, as the plain row functions of MlpRow. -/
module

public import proofs.«01_k».proof.Proof.MlpRow
public import proofs.«01_k».proof.Proof.Gen.MlpIdeal.Frame
public import proofs.«01_k».proof.Proof.Gen.MlpIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MlpIdeal.Value
open Cert.MlpIdeal Cert.MlpIdeal.Gen Cert.MlpRow

theorem res_a (v8 v17 : FVec Ideal S512x512 .bf16) (v19 : FVec Ideal S512x1024 .f32) (v21 v24 : FVec Ideal S512x1024 .bf16)
    (i : Fin 512) (d : Fin 1024) :
    k0_pay6 (F := Ideal) v8 v17 v19 v21 (constant S512x1024 .f32 0x00000000#32) v24 (ix2 i d)
      = res (fun d => v19 (ix2 i d)) (fun k => v8 (ix2 i k)) (fun k => v17 (ix2 i k)) (fun k d => v21 (ix2 k d)) (fun k d => v24 (ix2 k d)) d := by
  pointwise! [k0_pay6, res]

theorem norm_a (v8 v17 : FVec Ideal S512x512 .bf16) (v19 : FVec Ideal S512x1024 .f32) (v21 : FVec Ideal S512x1024 .bf16)
    (cst : FVec Ideal S512x1024 .f32) (v24 : FVec Ideal S512x1024 .bf16) (g : FVec Ideal S1x1024 .f32)
    (i : Fin 512) (d : Fin 1024) :
    k0_pay7 (F := Ideal) v8 v17 v19 v21 cst v24 g (ix2 i d)
      = nrm (fun d => k0_pay6 (F := Ideal) v8 v17 v19 v21 cst v24 (ix2 i d)) (fun d => g (ix2 0 d)) d := by
  pointwise! [k0_pay7, nrm]

theorem res_b (v75 v84 : FVec Ideal S512x512 .bf16) (v85 : FVec Ideal S512x1024 .f32) (v87 v91 : FVec Ideal S512x1024 .bf16)
    (i : Fin 512) (d : Fin 1024) :
    k0_pay15 (F := Ideal) v75 v84 v85 v87 v91 (ix2 i d)
      = res (fun d => v85 (ix2 i d)) (fun k => v75 (ix2 i k)) (fun k => v84 (ix2 i k)) (fun k d => v87 (ix2 k d)) (fun k d => v91 (ix2 k d)) d := by
  pointwise! [k0_pay15, res]

theorem norm_b (v75 v84 : FVec Ideal S512x512 .bf16) (v85 : FVec Ideal S512x1024 .f32) (v87 v91 : FVec Ideal S512x1024 .bf16)
    (g : FVec Ideal S1x1024 .f32) (i : Fin 512) (d : Fin 1024) :
    k0_pay18 (F := Ideal) v75 v84 v85 v87 v91 g (ix2 i d)
      = nrm (fun d => k0_pay15 (F := Ideal) v75 v84 v85 v87 v91 (ix2 i d)) (fun d => g (ix2 0 d)) d := by
  pointwise! [k0_pay18, nrm]

theorem fst_piece (v8 v17 : FVec Ideal S512x512 .bf16) (v19 : FVec Ideal S512x1024 .f32) (v21 v24 : FVec Ideal S512x1024 .bf16)
    (g gf : FVec Ideal S1x1024 .f32) (a b c e a' b' c' e' : FVec Ideal S1024x1024 .bf16) (cst : FVec Ideal S512x1024 .f32)
    (i : Fin 512) (d : Fin 1024) :
    k0_pay22 (F := Ideal) (k0_pay6 (F := Ideal) v8 v17 v19 v21 cst v24)
      (k0_pay16 (F := Ideal) (k0_pay7 (F := Ideal) v8 v17 v19 v21 cst v24 g) e)
      (k0_pay17 (F := Ideal) (k0_pay10 (F := Ideal) v8 v17 v19 v21 cst v24 g c)
        (k0_pay12 (F := Ideal) (k0_pay8 (F := Ideal) v8 v17 v19 v21 cst v24 g b)
          (k0_pay9 (F := Ideal) v8 v17 v19 v21 cst v24 g a a') (k0_pay11 (F := Ideal)) b') c') e' gf (ix2 i d)
      = nrm (fun d => k0_pay6 (F := Ideal) v8 v17 v19 v21 cst v24 (ix2 i d) + (
          ffc (fun k => k0_pay7 (F := Ideal) v8 v17 v19 v21 cst v24 g (ix2 i k)) (fun k e => a (ix2 k e)) (fun k e => a' (ix2 k e)) d
          + ffc (fun k => k0_pay7 (F := Ideal) v8 v17 v19 v21 cst v24 g (ix2 i k)) (fun k e => b (ix2 k e)) (fun k e => b' (ix2 k e)) d
          + ffc (fun k => k0_pay7 (F := Ideal) v8 v17 v19 v21 cst v24 g (ix2 i k)) (fun k e => c (ix2 k e)) (fun k e => c' (ix2 k e)) d
          + ffc (fun k => k0_pay7 (F := Ideal) v8 v17 v19 v21 cst v24 g (ix2 i k)) (fun k d => e (ix2 k d)) (fun k d => e' (ix2 k d)) d))
        (fun d => gf (ix2 0 d)) d := by
  pointwise! [k0_pay22, k0_pay16, k0_pay17, k0_pay10, k0_pay12, k0_pay8, k0_pay9, k0_pay11, nrm, ffc, hid]

theorem snd_piece (v75 v84 : FVec Ideal S512x512 .bf16) (v85 : FVec Ideal S512x1024 .f32) (v87 v91 : FVec Ideal S512x1024 .bf16)
    (g gf : FVec Ideal S1x1024 .f32) (a b c e a' b' c' e' : FVec Ideal S1024x1024 .bf16)
    (i : Fin 512) (d : Fin 1024) :
    k0_pay1 (F := Ideal) (k0_pay24 (F := Ideal) (k0_pay15 (F := Ideal) v75 v84 v85 v87 v91)
      (k0_pay18 (F := Ideal) v75 v84 v85 v87 v91 g)
      (k0_pay20 (F := Ideal) (k0_pay18 (F := Ideal) v75 v84 v85 v87 v91 g) b)
      (k0_pay21 (F := Ideal) (k0_pay18 (F := Ideal) v75 v84 v85 v87 v91 g) (k0_pay19 (F := Ideal) a) a')
      (k0_pay23 (F := Ideal) c) (constant S512x1024 .f32 0x00000000#32) b' e c' e') gf (ix2 i d)
      = nrm (fun d => k0_pay15 (F := Ideal) v75 v84 v85 v87 v91 (ix2 i d) + (
          ffc (fun k => k0_pay18 (F := Ideal) v75 v84 v85 v87 v91 g (ix2 i k)) (fun k e => a (ix2 k e)) (fun k e => a' (ix2 k e)) d
          + ffc (fun k => k0_pay18 (F := Ideal) v75 v84 v85 v87 v91 g (ix2 i k)) (fun k e => b (ix2 k e)) (fun k e => b' (ix2 k e)) d
          + ffc (fun k => k0_pay18 (F := Ideal) v75 v84 v85 v87 v91 g (ix2 i k)) (fun k e => c (ix2 k e)) (fun k e => c' (ix2 k e)) d
          + ffc (fun k => k0_pay18 (F := Ideal) v75 v84 v85 v87 v91 g (ix2 i k)) (fun k d => e (ix2 k d)) (fun k d => e' (ix2 k d)) d))
        (fun d => gf (ix2 0 d)) d := by
  pointwise! [k0_pay1, k0_pay24, k0_pay19, k0_pay20, k0_pay21, k0_pay23, nrm, ffc, hid]

end Cert.MlpIdeal.Value
end
-- ==== Proof.MlpRefPure.lean ====
/- Hand-written, untrusted: the reference's composed term at an index, as the plain row functions of MlpRow. -/
module

public import proofs.«01_k».proof.Proof.MlpRow
public import proofs.«01_k».proof.Proof.Gen.MlpRefIdeal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MlpRefIdeal.Value
open Cert.MlpRefIdeal Cert.MlpRefIdeal.Gen Cert.MlpRow

/-- The residual stream after the output projection. -/
def RY (a0 : FVec Ideal S32x2048x1024 .f32) (a1 a2 : FVec Ideal S32x4x2048x128 .bf16) (a3 : FVec Ideal S1x1024x1024 .f32) :
    FVec Ideal S32x2048x1024 .f32 :=
  addf a0 (Host.dotGeneral dot_S32x2048x1024_S1024x1024_S32x2048x1024_2_0_01_1_n_n none (concatenate S32x2048x1024 2 [⟨S32x2048x512, (shapeCast _ (transpose S32x2048x4x128 [0, 2, 1, 3] (extf .f32 a1 bitsLt_bf16_f32) transposes_S32x4x2048x128_S32x2048x4x128_0_2_1_3) shapeCasts_S32x2048x4x128_S32x2048x512)⟩, ⟨S32x2048x512, (shapeCast _ (transpose S32x2048x4x128 [0, 2, 1, 3] (extf .f32 a2 bitsLt_bf16_f32) transposes_S32x4x2048x128_S32x2048x4x128_0_2_1_3) shapeCasts_S32x2048x4x128_S32x2048x512)⟩] concatenates_S32x2048x512_S32x2048x512_S32x2048x1024_d2) (shapeCast _ a3 shapeCasts_S1x1024x1024_S1024x1024))

/-- Root mean square normalisation of a stream with a gain. -/
def RN (y : FVec Ideal S32x2048x1024 .f32) (g : FVec Ideal S1024 .f32) : FVec Ideal S32x2048x1024 .f32 :=
  mulf (mulf y (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf y y) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))

/-- The feed-forward stream. -/
def RF (h : FVec Ideal S32x2048x1024 .f32) (a6 : FVec Ideal S1x1024x4096 .f32) (a7 : FVec Ideal S1x4096x1024 .f32) : FVec Ideal S32x2048x1024 .f32 :=
  Host.dotGeneral dot_S32x2048x4096_S4096x1024_S32x2048x1024_2_0_01_1_n_n none
    (mulf (maximumf (Host.dotGeneral dot_S32x2048x1024_S1024x4096_S32x2048x4096_2_0_01_1_n_n none h (shapeCast _ a6 shapeCasts_S1x1024x4096_S1024x4096)) (broadcastInDim S32x2048x4096 ![] bcast_S_S32x2048x4096 (constant S_ .f32 0x00000000#32)))
      (maximumf (Host.dotGeneral dot_S32x2048x1024_S1024x4096_S32x2048x4096_2_0_01_1_n_n none h (shapeCast _ a6 shapeCasts_S1x1024x4096_S1024x4096)) (broadcastInDim S32x2048x4096 ![] bcast_S_S32x2048x4096 (constant S_ .f32 0x00000000#32))))
    (shapeCast _ a7 shapeCasts_S1x4096x1024_S4096x1024)

/-- The reference's result. -/
def REF (a0 : FVec Ideal S32x2048x1024 .f32) (a1 a2 : FVec Ideal S32x4x2048x128 .bf16) (a3 : FVec Ideal S1x1024x1024 .f32)
    (a4 : FVec Ideal S1x1024 .f32) (a5 : FVec Ideal S1024 .f32) (a6 : FVec Ideal S1x1024x4096 .f32) (a7 : FVec Ideal S1x4096x1024 .f32) :
    FVec Ideal S65536x1024 .f32 :=
  shapeCast _ (RN (addf (RY a0 a1 a2 a3) (RF (RN (RY a0 a1 a2 a3) (shapeCast _ a4 shapeCasts_S1x1024_S1024)) a6 a7)) a5) shapeCasts_S32x2048x1024_S65536x1024

theorem res_eq (m : (ℓ : Loc nD τ sig) → Buf (Elt Ideal) ℓ) (c : Dev nD) :
    res_main_v44 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  rfl

theorem RY_at (a0 : FVec Ideal S32x2048x1024 .f32) (a1 a2 : FVec Ideal S32x4x2048x128 .bf16) (a3 : FVec Ideal S1x1024x1024 .f32)
    (b : Fin 32) (s : Fin 2048) (d : Fin 1024) :
    RY a0 a1 a2 a3 (ix3 b s d) = res (fun d => a0 (ix3 b s d))
      (fun k => a1 (ix4 b ⟨k / 128, by omega⟩ s ⟨k % 128, by omega⟩)) (fun k => a2 (ix4 b ⟨k / 128, by omega⟩ s ⟨k % 128, by omega⟩))
      (fun k d => a3 (ix3 0 ⟨k, by omega⟩ d)) (fun k d => a3 (ix3 0 ⟨512 + k, by omega⟩ d)) d := by
  pointwise [RY, res]
  try rw [add_assoc]
  try rfl

theorem RN_at (y : FVec Ideal S32x2048x1024 .f32) (g : FVec Ideal S1024 .f32) (b : Fin 32) (s : Fin 2048) (d : Fin 1024) :
    RN y g (ix3 b s d) = nrm (fun d => y (ix3 b s d)) (fun d => g (ix1 d)) d := by
  pointwise! [RN, nrm]

theorem RF_at (h : FVec Ideal S32x2048x1024 .f32) (a6 : FVec Ideal S1x1024x4096 .f32) (a7 : FVec Ideal S1x4096x1024 .f32)
    (b : Fin 32) (s : Fin 2048) (d : Fin 1024) :
    RF h a6 a7 (ix3 b s d) = ff (fun d => h (ix3 b s d)) (fun k e => a6 (ix3 0 k e)) (fun e d => a7 (ix3 0 e d)) d := by
  pointwise! [RF, ff, hid]

/-- The reference at an index is the plain row of its arguments' rows. -/
theorem REF_at (a0 : FVec Ideal S32x2048x1024 .f32) (a1 a2 : FVec Ideal S32x4x2048x128 .bf16) (a3 : FVec Ideal S1x1024x1024 .f32)
    (a4 : FVec Ideal S1x1024 .f32) (a5 : FVec Ideal S1024 .f32) (a6 : FVec Ideal S1x1024x4096 .f32) (a7 : FVec Ideal S1x4096x1024 .f32)
    (R : Fin 65536) (d : Fin 1024) :
    REF a0 a1 a2 a3 a4 a5 a6 a7 (ix2 R d) = row (fun d => a0 (ix3 ⟨R / 2048, by omega⟩ ⟨R % 2048, by omega⟩ d))
      (fun k => a1 (ix4 ⟨R / 2048, by omega⟩ ⟨k / 128, by omega⟩ ⟨R % 2048, by omega⟩ ⟨k % 128, by omega⟩))
      (fun k => a2 (ix4 ⟨R / 2048, by omega⟩ ⟨k / 128, by omega⟩ ⟨R % 2048, by omega⟩ ⟨k % 128, by omega⟩))
      (fun k d => a3 (ix3 0 ⟨k, by omega⟩ d)) (fun k d => a3 (ix3 0 ⟨512 + k, by omega⟩ d))
      (fun d => a4 (ix2 0 d)) (fun d => a5 (ix1 d)) (fun k e => a6 (ix3 0 k e)) (fun e d => a7 (ix3 0 e d)) d := by
  have hy : ∀ (y : FVec Ideal S32x2048x1024 .f32), shapeCast S65536x1024 y shapeCasts_S32x2048x1024_S65536x1024 (ix2 R d)
      = y (ix3 ⟨R / 2048, by omega⟩ ⟨R % 2048, by omega⟩ d) := fun y => by pointwise
  unfold REF row
  rw [hy, RN_at]
  congr 1
  funext d
  show RY a0 a1 a2 a3 _ + RF _ a6 a7 _ = _
  rw [RF_at, RY_at]
  congr 2
  funext d
  rw [RN_at]
  congr 1
  · funext d; exact RY_at ..
  · funext d; pointwise

end Cert.MlpRefIdeal.Value
end
-- ==== Proof.MlpFinal.lean ====
/- Hand-written, untrusted: the array the kernel leaves is the reference's term. -/
module

public import proofs.«01_k».proof.Proof.MlpPure
public import proofs.«01_k».proof.Proof.MlpRefPure
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MlpIdeal.Value
open Cert.MlpIdeal Cert.MlpIdeal.Gen Cert.MlpRow

variable (m : (ℓ : Loc nD τ sig) → Buf (Elt Ideal) ℓ)

/-- Every window's block index at every grid point. -/
theorem idx : ∀ t : Fin cfg0.N, win0_0.index t = ![t.val, 0]
    ∧ win0_1.index t = ![t.val / 2, 0, t.val % 2, 0]
    ∧ win0_2.index t = ![t.val / 2, 0, t.val % 2, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0] :=
  (by decide +kernel : ∀ t : Fin grid0.N, _)

/-- The reference's term over the kernel's argument arrays. -/
abbrev RES (c : Dev nD) : FVec Ideal S65536x1024 .f32 :=
  Cert.MlpRefIdeal.Value.REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem blk0 (c : Dev nD) (t : Fin cfg0.N) (r : Fin 1024) (d : Fin 1024) (ht : t.val < 64) :
    iblk m c 0 t (ix2 r d) = m ((c : Thread nD τ).loc main_arg0) (ix3 ⟨(t.val * 1024 + r) / 2048, by omega⟩ ⟨(t.val * 1024 + r) % 2048, by omega⟩ d) := by
  blk_point [iblk, V, idx t]
theorem blk1 (c : Dev nD) (t : Fin cfg0.N) (h : Fin 4) (r : Fin 1024) (d : Fin 128) (ht : t.val < 64) :
    iblk m c 1 t (ix4 0 h r d) = m ((c : Thread nD τ).loc main_arg1) (ix4 ⟨(t.val * 1024 + r) / 2048, by omega⟩ h ⟨(t.val * 1024 + r) % 2048, by omega⟩ d) := by
  blk_point [iblk, V, idx t]
theorem blk2 (c : Dev nD) (t : Fin cfg0.N) (h : Fin 4) (r : Fin 1024) (d : Fin 128) (ht : t.val < 64) :
    iblk m c 2 t (ix4 0 h r d) = m ((c : Thread nD τ).loc main_arg2) (ix4 ⟨(t.val * 1024 + r) / 2048, by omega⟩ h ⟨(t.val * 1024 + r) % 2048, by omega⟩ d) := by
  blk_point [iblk, V, idx t]
theorem blk3 (c : Dev nD) (t : Fin cfg0.N) (k : Fin 512) (d : Fin 1024) :
    iblk m c 3 t (ix2 k d) = m ((c : Thread nD τ).loc main_arg3) (ix3 0 ⟨k, by omega⟩ d) := by
  blk_point [iblk, V, idx t]
theorem blk4 (c : Dev nD) (t : Fin cfg0.N) (k : Fin 512) (d : Fin 1024) :
    iblk m c 4 t (ix2 k d) = m ((c : Thread nD τ).loc main_arg3) (ix3 0 ⟨512 + k, by omega⟩ d) := by
  blk_point [iblk, V, idx t]
theorem blk5 (c : Dev nD) (t : Fin cfg0.N) (d : Fin 1024) :
    iblk m c 5 t (ix2 0 d) = m ((c : Thread nD τ).loc main_arg4) (ix2 0 d) := by
  blk_point [iblk, V, idx t]
theorem blk6 (c : Dev nD) (t : Fin cfg0.N) (k : Fin 1024) (e : Fin 4096) :
    iblk m c 6 t (ix2 k e) = m ((c : Thread nD τ).loc main_arg6) (ix3 0 k e) := by
  blk_point [iblk, V, idx t]
theorem blk7 (c : Dev nD) (t : Fin cfg0.N) (k : Fin 4096) (e : Fin 1024) :
    iblk m c 7 t (ix2 k e) = m ((c : Thread nD τ).loc main_arg7) (ix3 0 k e) := by
  blk_point [iblk, V, idx t]
theorem blk8 (c : Dev nD) (t : Fin cfg0.N) (d : Fin 1024) :
    iblk m c 8 t (ix2 0 d) = m ((c : Thread nD τ).loc main_arg5) (ix1 d) := by
  blk_point [iblk, V, idx t]

/-- Four loaded heads side by side, read at a lane. -/
theorem cat_a (v0 v2 v4 v6 : FVec Ideal S1x1x512x128 .bf16) (f : Fin 4 → Fin 128 → EReal) (i : Fin 512)
    (h0 : ∀ d, v0 (ix4 0 0 i d) = f 0 d) (h1 : ∀ d, v2 (ix4 0 0 i d) = f 1 d) (h2 : ∀ d, v4 (ix4 0 0 i d) = f 2 d)
    (h3 : ∀ d, v6 (ix4 0 0 i d) = f 3 d) (k : Fin 512) :
    k0_pay2 (F := Ideal) v0 v2 v4 v6 (ix2 i k) = f ⟨k / 128, by omega⟩ ⟨k % 128, by omega⟩ := by
  pointwise [k0_pay2]
  by_cases c0 : (k : ℕ) < 128
  · rw [dif_pos c0, h0]; congr 1 <;> ext <;> simp <;> omega
  rw [dif_neg c0]
  by_cases c1 : (k : ℕ) - 128 < 128
  · rw [dif_pos c1, h1]; congr 1 <;> ext <;> simp <;> omega
  rw [dif_neg c1]
  by_cases c2 : (k : ℕ) - 128 - 128 < 128
  · rw [dif_pos c2, h2]; congr 1 <;> ext <;> simp <;> omega
  rw [dif_neg c2, h3]; congr 1 <;> ext <;> simp <;> omega

theorem row_of (X : Fin 1024 → EReal) (A B : Fin 512 → EReal) (WA WB : Fin 512 → Fin 1024 → EReal) (g2 gf : Fin 1024 → EReal)
    (W1 : Fin 1024 → Fin 4096 → EReal) (W2 : Fin 4096 → Fin 1024 → EReal) (Y H G : Fin 1024 → EReal)
    (a a' b b' c c' e e' : Fin 1024 → Fin 1024 → EReal)
    (hY : ∀ d, Y d = res X A B WA WB d) (hH : ∀ d, H d = nrm Y g2 d) (hG : ∀ d, G d = gf d)
    (ha : ∀ k l, a k l = W1 k ⟨l, by omega⟩) (hb : ∀ k l, b k l = W1 k ⟨1024 + l, by omega⟩)
    (hc : ∀ k l, c k l = W1 k ⟨2048 + l, by omega⟩) (he : ∀ k l, e k l = W1 k ⟨3072 + l, by omega⟩)
    (ha' : ∀ k l, a' k l = W2 ⟨k, by omega⟩ l) (hb' : ∀ k l, b' k l = W2 ⟨1024 + k, by omega⟩ l)
    (hc' : ∀ k l, c' k l = W2 ⟨2048 + k, by omega⟩ l) (he' : ∀ k l, e' k l = W2 ⟨3072 + k, by omega⟩ l) (d : Fin 1024) :
    nrm (fun d => Y d + (ffc H a a' d + ffc H b b' d + ffc H c c' d + ffc H e e' d)) G d = row X A B WA WB g2 gf W1 W2 d := by
  obtain rfl : Y = _ := funext hY
  obtain rfl : H = _ := funext hH
  obtain rfl : G = _ := funext hG
  obtain rfl : a = _ := funext fun k => funext (ha k)
  obtain rfl : b = _ := funext fun k => funext (hb k)
  obtain rfl : c = _ := funext fun k => funext (hc k)
  obtain rfl : e = _ := funext fun k => funext (he k)
  obtain rfl : a' = _ := funext fun k => funext (ha' k)
  obtain rfl : b' = _ := funext fun k => funext (hb' k)
  obtain rfl : c' = _ := funext fun k => funext (hc' k)
  obtain rfl : e' = _ := funext fun k => funext (he' k)
  unfold row
  simp only [ff_chunks]

theorem res_congr (X X' : Fin 1024 → EReal) (A B A' B' : Fin 512 → EReal) (WA WB WA' WB' : Fin 512 → Fin 1024 → EReal)
    (hX : ∀ d, X d = X' d) (hA : ∀ k, A k = A' k) (hB : ∀ k, B k = B' k) (hWA : ∀ k d, WA k d = WA' k d) (hWB : ∀ k d, WB k d = WB' k d)
    (d : Fin 1024) : res X A B WA WB d = res X' A' B' WA' WB' d := by
  simp only [res, hX, hA, hB, hWA, hWB]

theorem nrm_congr (y y' g g' : Fin 1024 → EReal) (hy : ∀ d, y d = y' d) (hg : ∀ d, g d = g' d) (d : Fin 1024) :
    nrm y g d = nrm y' g' d := by
  simp only [nrm, hy, hg]

set_option maxHeartbeats 1600000 in
theorem point (c : Dev nD) (t : Fin cfg0.N) (y) :
    out0_9 (iblk m c 0 t) (iblk m c 1 t) (iblk m c 2 t) (iblk m c 3 t) (iblk m c 4 t) (iblk m c 5 t) (iblk m c 6 t)
      (iblk m c 7 t) (iblk m c 8 t) y = RES m c (((cfg0.win 9).blk t).view.emb y) := by
  have ht : t.val < 64 := lt_of_lt_of_eq t.isLt N_0
  canon_tiles x h
  case piece0 =>
    idx_vars x
    have e : ((cfg0.win 9).blk t).view.emb y = ix2 ⟨t.val * 1024 + (512 + x0), by omega⟩ x1 := by blk_ext [idx t]
    rw [e]
    refine Eq.trans (snd_piece _ _ _ _ _ _ _ _ _ _ _ _ _ _ _ _ _) (Eq.trans ?_ (Cert.MlpRefIdeal.Value.REF_at _ _ _ _ _ _ _ _ _ _).symm)
    refine row_of _ _ _ _ _ _ _ _ _ _ _ _ _ _ _ _ _ _ _ _ ?_ ?_ ?_ ?_ ?_ ?_ ?_ ?_ ?_ ?_ ?_ _
    · intro d
      refine (res_b _ _ _ _ _ _ _).trans (res_congr _ _ _ _ _ _ _ _ _ _ ?_ ?_ ?_ ?_ ?_ d)
      · intro d; pointwise; exact blk0 m c t _ _ ht
      · intro k
        exact cat_a _ _ _ _ (fun h d => m ((c : Thread nD τ).loc main_arg1) (ix4 ⟨(t.val * 1024 + (512 + x0)) / 2048, by omega⟩ h ⟨(t.val * 1024 + (512 + x0)) % 2048, by omega⟩ d)) x0
          (fun d => by pointwise; exact blk1 m c t _ _ _ ht) (fun d => by pointwise; exact blk1 m c t _ _ _ ht)
          (fun d => by pointwise; exact blk1 m c t _ _ _ ht) (fun d => by pointwise; exact blk1 m c t _ _ _ ht) k
      · intro k
        exact cat_a _ _ _ _ (fun h d => m ((c : Thread nD τ).loc main_arg2) (ix4 ⟨(t.val * 1024 + (512 + x0)) / 2048, by omega⟩ h ⟨(t.val * 1024 + (512 + x0)) % 2048, by omega⟩ d)) x0
          (fun d => by pointwise; exact blk2 m c t _ _ _ ht) (fun d => by pointwise; exact blk2 m c t _ _ _ ht)
          (fun d => by pointwise; exact blk2 m c t _ _ _ ht) (fun d => by pointwise; exact blk2 m c t _ _ _ ht) k
      · intro k d; pointwise; exact blk3 m c t k d
      · intro k d; pointwise; exact blk4 m c t k d
    · intro d
      exact (norm_b _ _ _ _ _ _ _ _).trans (nrm_congr _ _ _ _ (fun d => rfl) (fun d => by pointwise; exact blk5 m c t d) d)
    · intro d; pointwise; exact blk8 m c t d
    all_goals (intro k d; pointwise)
    · exact blk6 m c t _ _
    · exact blk6 m c t _ _
    · exact blk6 m c t _ _
    · exact blk6 m c t _ _
    · exact blk7 m c t _ _
    · exact blk7 m c t _ _
    · exact blk7 m c t _ _
    · exact blk7 m c t _ _
  case piece1 =>
    idx_vars x
    have e : ((cfg0.win 9).blk t).view.emb y = ix2 ⟨t.val * 1024 + x0, by omega⟩ x1 := by blk_ext [idx t]
    rw [e]
    refine Eq.trans (fst_piece _ _ _ _ _ _ _ _ _ _ _ _ _ _ _ _ _ _) (Eq.trans ?_ (Cert.MlpRefIdeal.Value.REF_at _ _ _ _ _ _ _ _ _ _).symm)
    refine row_of _ _ _ _ _ _ _ _ _ _ _ _ _ _ _ _ _ _ _ _ ?_ ?_ ?_ ?_ ?_ ?_ ?_ ?_ ?_ ?_ ?_ _
    · intro d
      refine (res_a _ _ _ _ _ _ _).trans (res_congr _ _ _ _ _ _ _ _ _ _ ?_ ?_ ?_ ?_ ?_ d)
      · intro d; pointwise [k0_pay28, k0_pay4]; exact blk0 m c t _ _ ht
      · intro k
        exact cat_a _ _ _ _ (fun h d => m ((c : Thread nD τ).loc main_arg1) (ix4 ⟨(t.val * 1024 + x0) / 2048, by omega⟩ h ⟨(t.val * 1024 + x0) % 2048, by omega⟩ d)) x0
          (fun d => by pointwise; exact blk1 m c t _ _ _ ht) (fun d => by pointwise; exact blk1 m c t _ _ _ ht)
          (fun d => by pointwise; exact blk1 m c t _ _ _ ht) (fun d => by pointwise; exact blk1 m c t _ _ _ ht) k
      · intro k
        exact cat_a _ _ _ _ (fun h d => m ((c : Thread nD τ).loc main_arg2) (ix4 ⟨(t.val * 1024 + x0) / 2048, by omega⟩ h ⟨(t.val * 1024 + x0) % 2048, by omega⟩ d)) x0
          (fun d => by pointwise; exact blk2 m c t _ _ _ ht) (fun d => by pointwise; exact blk2 m c t _ _ _ ht)
          (fun d => by pointwise; exact blk2 m c t _ _ _ ht) (fun d => by pointwise; exact blk2 m c t _ _ _ ht) k
      · intro k d; pointwise [k0_pay29, k0_pay5]; exact blk3 m c t k d
      · intro k d; pointwise; exact blk4 m c t k d
    · intro d
      exact (norm_a _ _ _ _ _ _ _ _ _).trans (nrm_congr _ _ _ _ (fun d => rfl) (fun d => by pointwise; exact blk5 m c t d) d)
    · intro d; pointwise; exact blk8 m c t d
    all_goals (intro k d; pointwise)
    · exact blk6 m c t _ _
    · exact blk6 m c t _ _
    · exact blk6 m c t _ _
    · exact blk6 m c t _ _
    · exact blk7 m c t _ _
    · exact blk7 m c t _ _
    · exact blk7 m c t _ _
    · exact blk7 m c t _ _

theorem final (c : Dev nD) : (dats m 0 c).arrAt 9 (cfgs 0).N = RES m c := by
  refine (dats m 0 c).arrAt_eq_of_covers 9 _ (by decide +kernel) fun t hf y => ?_
  blk_simp; rw [after0_9]
  exact point m c t y

end Cert.MlpIdeal.Value
end
-- ==== Proof.MlpClaims.lean ====
/- Hand-written, untrusted: the claims about the output projection with the feed-forward layer. -/
module

public import proofs.«01_k».proof.Defs
public import proofs.«01_k».proof.Proof.Gen.Mlp
public import proofs.«01_k».proof.Proof.Gen.Mlp.Frame
public import proofs.«01_k».proof.Proof.MlpFinal
public import Idealize.ShloMosaic.Lib.Claim

@[expose] public section

set_option maxRecDepth 16384

noncomputable section

namespace Cert.MlpClaims

open Idealize.ShloMosaic Idealize.SL.Sem

theorem frame_P : Cert.quiescent_Mlp := fun m g _ => Cert.Mlp.Gen.frame m g
theorem frame_PI : Cert.quiescent_MlpIdeal := fun m g _ => Cert.MlpIdeal.Gen.frame m g
theorem frame_RI : Cert.quiescent_MlpRefIdeal := by
  intro m g _
  exact (θ_run Cert.MlpRefIdeal.defs _ _).mono (fun r h => ⟨fun c => (h c).2, sem_eq_zero_of_no_sems (by decide) r.2⟩)
    (Cert.MlpRefIdeal.Value.run (F := Ideal) m g)

theorem algebraic : Cert.algebraic_MlpIdeal_MlpRefIdeal := by
  pair_intro
  · run_from Cert.MlpIdeal.Value.run_blocks m g
  · run_from Cert.MlpRefIdeal.Value.run m' g'
    rw [Cert.MlpRefIdeal.Value.res_eq]
    obtain ⟨h0, h1, h2, h3, h4, h5, h6, h7⟩ := hagree c
    rw [h0, h1, h2, h3, h4, h5, h6, h7]
    exact (Cert.MlpIdeal.Value.final m c).symm

end Cert.MlpClaims

end
-- ==== Proof.DiffSoft.lean ====
/- Hand-written, untrusted: the algebra of a softmax whose exponentials are shifted by any real number, block by block. -/
module

public import Idealize.ShloMosaic.Lib.Pointwise

@[expose] public section

noncomputable section

open Idealize.ShloMosaic
open scoped BigOperators

namespace Cert.DiffSoft

/-- The weight of a score: two to its power, zero for a masked score. -/
def wt (x : EReal) : ℝ := (Ideal.exp2 x).toReal

theorem wt_bot : wt ⊥ = 0 := rfl

theorem wt_coe (a : ℝ) : wt (a : EReal) = (2 : ℝ) ^ a := rfl

theorem wt_nonneg (x : EReal) (hx : x ≠ ⊤) : 0 ≤ wt x := by
  induction x using EReal.rec with
  | bot => exact le_of_eq wt_bot.symm
  | top => exact absurd rfl hx
  | coe a => rw [wt_coe]; positivity

theorem wt_pos (a : ℝ) : 0 < wt (a : EReal) := by
  rw [wt_coe]; positivity

/-- An exponential shifted by a real number. -/
theorem exp2_shift (x : EReal) (r : ℝ) (hx : x ≠ ⊤) : Ideal.exp2 (x - (r : EReal)) = (((2 : ℝ) ^ (-r) * wt x : ℝ) : EReal) := by
  induction x using EReal.rec with
  | bot => rw [wt_bot, mul_zero, EReal.bot_sub, Ideal.exp2_bot]; rfl
  | top => exact absurd rfl hx
  | coe a =>
    rw [wt_coe, ← EReal.coe_sub, Ideal.exp2_coe, ← Real.rpow_add (by norm_num)]
    congr 1
    show (2 : ℝ) ^ (a - r) = _
    congr 1; ring

theorem coe_sum {K : Type} (J : Finset K) (f : K → ℝ) : ((∑ k ∈ J, f k : ℝ) : EReal) = ∑ k ∈ J, (f k : EReal) := by
  classical
  induction J using Finset.induction_on with
  | empty => simp
  | insert a J ha ih => rw [Finset.sum_insert ha, Finset.sum_insert ha, EReal.coe_add, ih]

/-- A sum of products of reals with shifted exponentials. -/
theorem sum_shift {K : Type} [Fintype K] (f x : K → EReal) (v : K → ℝ) (r : ℝ) (hf : ∀ k, f k = v k) (hx : ∀ k, x k ≠ ⊤) :
    ∑ k, f k * Ideal.exp2 (x k - (r : EReal)) = (((2 : ℝ) ^ (-r) * ∑ k, v k * wt (x k) : ℝ) : EReal) := by
  rw [Finset.mul_sum, coe_sum]
  refine Finset.sum_congr rfl fun k _ => ?_
  rw [hf, exp2_shift _ _ (hx k), ← EReal.coe_mul]
  congr 1; ring

/-- The state of a block-wise softmax, rescaled to a new shift, with a new block added. -/
theorem rescale (a a' A B : ℝ) :
    Ideal.exp2 ((a : EReal) - (a' : EReal)) * (((2 : ℝ) ^ (-a) * A : ℝ) : EReal) + (((2 : ℝ) ^ (-a') * B : ℝ) : EReal)
      = (((2 : ℝ) ^ (-a') * (B + A) : ℝ) : EReal) := by
  rw [exp2_shift _ _ (EReal.coe_ne_top a), wt_coe, ← EReal.coe_mul, ← EReal.coe_add]
  congr 1
  have h : (2 : ℝ) ^ a * (2 : ℝ) ^ (-a) = 1 := by rw [← Real.rpow_add (by norm_num)]; simp
  linear_combination ((2 : ℝ) ^ (-a') * A) * h

/-- The greatest of a family of scores, none of them above every real and one of them real, is real. -/
theorem sup_real {K : Type} [Fintype K] (x : K → EReal) (hx : ∀ k, x k ≠ ⊤) (k : K) (a : ℝ) (hk : x k = a) :
    ∃ r : ℝ, Finset.univ.sup x = r := by
  have h1 : Finset.univ.sup x ≠ ⊤ := by
    refine ne_of_lt ((Finset.sup_lt_iff (bot_lt_top)).2 fun k _ => lt_top_iff_ne_top.2 (hx k))
  have h2 : Finset.univ.sup x ≠ ⊥ := by
    refine ne_of_gt (lt_of_lt_of_le ?_ (Finset.le_sup (f := x) (Finset.mem_univ k)))
    rw [hk]; exact EReal.bot_lt_coe a
  exact ⟨_, (EReal.coe_toReal h1 h2).symm⟩

theorem sup_ne_top {K : Type} [Fintype K] (x : K → EReal) (hx : ∀ k, x k ≠ ⊤) : Finset.univ.sup x ≠ ⊤ :=
  ne_of_lt ((Finset.sup_lt_iff (bot_lt_top)).2 fun k _ => lt_top_iff_ne_top.2 (hx k))

theorem max_real (a : ℝ) (x : EReal) (hx : x ≠ ⊤) : ∃ r : ℝ, max (a : EReal) x = r := by
  induction x using EReal.rec with
  | bot => exact ⟨a, max_eq_left bot_le⟩
  | top => exact absurd rfl hx
  | coe b => exact ⟨max a b, (Monotone.map_max (fun _ _ h => EReal.coe_le_coe_iff.2 h) (f := ((↑) : ℝ → EReal))).symm⟩

end Cert.DiffSoft

end
-- ==== Proof.DiffStep.lean ====
/- Hand-written, untrusted: the block-wise softmax of the differential attention on vectors: what a block of scores, its weights and
   its products leave, and the invariant they keep. -/
module

public import proofs.«01_k».proof.Proof.DiffSoft
public import proofs.«01_k».proof.Proof.Gen.DiffIdeal.Skeleton
public import Idealize.ShloMosaic.Lib.Pointwise

@[expose] public section

set_option maxRecDepth 16384

noncomputable section

open Idealize.ShloMosaic Idealize.ShloMosaic.TcCoe Idealize.SL.Sem
open scoped BigOperators

namespace Cert.DiffStep
open Cert.DiffIdeal Cert.DiffIdeal.Gen Cert.DiffSoft

/-- A block of scores: keys by queries. -/
def SC (kb : FVec Ideal S256x128 .bf16) (w : FVec Ideal S128x256 .bf16) : FVec Ideal S256x256 .f32 :=
  matmul dot_S256x128_S128x256_S256x256_1_0_0_1_n_n none kb w (constant S256x256 .f32 0x00000000#32)

/-- The columns' greatest scores. -/
def MX (s : FVec Ideal S256x256 .f32) : FVec Ideal S1x256 .f32 :=
  shapeCast S1x256 (multiReduction .maximumf [0] S256 s 0xFF800000#32 reduces_S256x256_S256 (.inl rfl) rfl) shapeCasts_S256_S1x256

/-- The stored weights of a block of stored scores under a shift. -/
def PW (sr : FVec Ideal S1x256x256 .f32) (m : FVec Ideal S1x256 .f32) : FVec Ideal S1x256x256 .bf16 :=
  shapeCast S1x256x256 (truncf .bf16 (exp2 (subf (shapeCast S256x256 sr shapeCasts_S1x256x256_S256x256) (broadcastTo S256x256 m broadcasts_S1x256_S256x256))) bitsLt_bf16_f32) shapeCasts_S256x256_S1x256x256

/-- The values of a block, with rows of ones, times the stored weights. -/
def PV (vx : FVec Ideal S80x256 .bf16) (pr : FVec Ideal S1x256x256 .bf16) : FVec Ideal S80x256 .f32 :=
  matmul dot_S80x256_S256x256_S80x256_1_0_0_1_n_n none vx (shapeCast S256x256 pr shapeCasts_S1x256x256_S256x256) (constant S80x256 .f32 0x00000000#32)

/-- A block of scores as it is stored. -/
def ST (s : FVec Ideal S256x256 .f32) : FVec Ideal S1x256x256 .f32 := shapeCast S1x256x256 s shapeCasts_S256x256_S1x256x256

/-- The accumulator rescaled and added into. -/
def AC (m m' : FVec Ideal S1x256 .f32) (acc d : FVec Ideal S80x256 .f32) : FVec Ideal S80x256 .f32 :=
  addf (mulf (broadcastTo S80x256 (exp2 (subf m m')) broadcasts_S1x256_S80x256) acc) d

/-- Key `κ` of block `j`, feature `f`. -/
def kf (x1 : FVec Ideal S1x1x2048x128 .bf16) (j : Fin 8) (κ : Fin 256) (f : Fin 128) : EReal :=
  x1 (ix4 0 0 ⟨256 * j + κ, by omega⟩ f)

/-- Query `q` of block `i`, feature `f`. -/
def qf (x0 : FVec Ideal S1x16x128x128 .bf16) (i : Fin 8) (f : Fin 128) (q : Fin 256) : EReal :=
  x0 (ix4 0 ⟨2 * i + q / 128, by omega⟩ f ⟨q % 128, by omega⟩)

/-- Value `κ` of block `j`, feature `d` of head `hh`. -/
def vf (x2 : FVec Ideal S1x16x128x128 .bf16) (j : Fin 8) (hh : Fin 2) (d : Fin 64) (κ : Fin 256) : EReal :=
  x2 (ix4 0 ⟨2 * j + κ / 128, by omega⟩ ⟨64 * hh + d, by omega⟩ ⟨κ % 128, by omega⟩)

/-- Key block `j` of the key window. -/
def KB (x1 : FVec Ideal S1x1x2048x128 .bf16) (j : Fin 8) : FVec Ideal S256x128 .bf16 := fun y => kf x1 j (y 0) (y 1)

/-- A query's feature where it belongs to sub-head `c`. -/
def wq (x0 : FVec Ideal S1x16x128x128 .bf16) (i : Fin 8) (c : Fin 4) (f : Fin 128) (q : Fin 256) : EReal :=
  if f.val % 64 / 16 = c.val then qf x0 i f q else 0

/-- The queries of block `i` with all but one sub-head's features cleared. -/
def WQ (x0 : FVec Ideal S1x16x128x128 .bf16) (i : Fin 8) (c : Fin 4) : FVec Ideal S128x256 .bf16 := fun y => wq x0 i c (y 0) (y 1)

/-- A value row, or a row of ones below them. -/
def vo (x2 : FVec Ideal S1x16x128x128 .bf16) (j : Fin 8) (hh : Fin 2) (d : Fin 80) (κ : Fin 256) : EReal :=
  if h : d.val < 64 then vf x2 j hh ⟨d.val, h⟩ κ else 1

/-- The values of block `j` of head `hh`, with rows of ones below. -/
def VX (x2 : FVec Ideal S1x16x128x128 .bf16) (j : Fin 8) (hh : Fin 2) : FVec Ideal S80x256 .bf16 := fun y => vo x2 j hh (y 0) (y 1)

/-- The mask of a diagonal block. -/
def DM : FVec Ideal S256x256 .f32 := k0_pay11 (k0_pay8) k0_pay9 k0_pay10

theorem SC_at (kb : FVec Ideal S256x128 .bf16) (w : FVec Ideal S128x256 .bf16) (κ q : Fin 256) :
    SC kb w (ix2 κ q) = ∑ f : Fin 128, kb (ix2 κ f) * w (ix2 f q) := by
  pointwise! [SC]

theorem MX_at (s : FVec Ideal S256x256 .f32) (q : Fin 256) :
    MX s (ix2 0 q) = Finset.univ.sup fun κ : Fin 256 => s (ix2 κ q) := by
  pointwise! [MX]

theorem PV_at (vx : FVec Ideal S80x256 .bf16) (s : FVec Ideal S256x256 .f32) (m : FVec Ideal S1x256 .f32) (d : Fin 80) (q : Fin 256) :
    PV vx (PW (ST s) m) (ix2 d q) = ∑ κ : Fin 256, vx (ix2 d κ) * Ideal.exp2 (s (ix2 κ q) - m (ix2 0 q)) := by
  pointwise! [PV, PW, ST]

theorem AC_at (m m' : FVec Ideal S1x256 .f32) (acc d : FVec Ideal S80x256 .f32) (e : Fin 80) (q : Fin 256) :
    AC m m' acc d (ix2 e q) = Ideal.exp2 (m (ix2 0 q) - m' (ix2 0 q)) * acc (ix2 e q) + d (ix2 e q) := by
  pointwise! [AC]

/-- The chunk of an index, as the words compute it. -/
theorem chunk_word : ∀ κ : Fin 256, Scalar.select
          (IntOp.andi
            (IntOp.cmpi CmpIPredicate.ne
              (IntOp.subi (BitVec.setWidth 32 (IntOp.cmpi CmpIPredicate.sgt (BitVec.ofNat 32 κ.val) 0#32))
                (BitVec.setWidth 32 (IntOp.cmpi CmpIPredicate.slt (BitVec.ofNat 32 κ.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 κ.val) 64#32) 0#32))
          (IntOp.subi (IntOp.divsi ArithUnit.vector (BitVec.ofNat 32 κ.val) 64#32) 1#32)
          (IntOp.divsi ArithUnit.vector (BitVec.ofNat 32 κ.val) 64#32) = BitVec.ofNat 32 (κ.val / 64) := by
  decide +kernel

theorem chunk_le : ∀ a b : Fin 4, IntOp.cmpi CmpIPredicate.sle (BitVec.ofNat 32 a.val) (BitVec.ofNat 32 b.val) = if a.val ≤ b.val then 1#1 else 0#1 := by
  decide +kernel

theorem mask_named : Named.named (F := Ideal) Cert.DiffIdeal.κ "mask" (φ := .f32) 0xF149F2CA#32 = ⊥ :=
  IdealRules.named_const.ideal_named_scalar _ _ _ _ rfl

theorem DM_at (κ q : Fin 256) : DM (ix2 κ q) = if κ.val / 64 ≤ q.val / 64 then 0 else ⊥ := by
  pointwise [DM, k0_pay11, k0_pay8, k0_pay9, k0_pay10]
  rw [chunk_word, chunk_word, chunk_le ⟨κ / 64, by omega⟩ ⟨q / 64, by omega⟩]
  refine (congrArg (Scalar.select _ _) mask_named).trans ?_
  by_cases h : κ.val / 64 ≤ q.val / 64
  · rw [if_pos h, if_pos h]; rfl
  · rw [if_neg h, if_neg h]; rfl

/-- Every element of a block is a real number. -/
def Fin' {s : Shape} {φ : FTy} (x : FVec Ideal s φ) : Prop := ∀ y, ∃ r : ℝ, x y = (r : EReal)

variable (x0 : FVec Ideal S1x16x128x128 .bf16) (x1 : FVec Ideal S1x1x2048x128 .bf16) (x2 : FVec Ideal S1x16x128x128 .bf16)

/-- The score of key `κ` of block `j` for query `q` of block `i`, sub-head `c`. -/
def raw (i : Fin 8) (c : Fin 4) (j : Fin 8) (κ q : Fin 256) : EReal := ∑ f : Fin 128, kf x1 j κ f * wq x0 i c f q

/-- The score with the diagonal block's mask. -/
def sg (i : Fin 8) (c : Fin 4) (j : Fin 8) (κ q : Fin 256) : EReal :=
  raw x0 x1 i c j κ q + (if j = i then (if κ.val / 64 ≤ q.val / 64 then 0 else ⊥) else 0)

/-- The head of a sub-head. -/
def hd (c : Fin 4) : Fin 2 := ⟨c.val / 2, by omega⟩

def num (i : Fin 8) (c : Fin 4) (J : Finset (Fin 8)) (d : Fin 64) (q : Fin 256) : ℝ :=
  ∑ j ∈ J, ∑ κ : Fin 256, (vf x2 j (hd c) d κ).toReal * wt (sg x0 x1 i c j κ q)

def den (i : Fin 8) (c : Fin 4) (J : Finset (Fin 8)) (q : Fin 256) : ℝ :=
  ∑ j ∈ J, ∑ κ : Fin 256, wt (sg x0 x1 i c j κ q)

/-- What the running shift and the accumulator hold after the key blocks `J`. -/
def St (i : Fin 8) (c : Fin 4) (J : Finset (Fin 8)) (m : FVec Ideal S1x256 .f32) (acc : FVec Ideal S80x256 .f32) : Prop :=
  ∀ q : Fin 256, ∃ r : ℝ, m (ix2 0 q) = (r : EReal)
    ∧ (∀ d : Fin 64, acc (ix2 ⟨d.val, by omega⟩ q) = (((2 : ℝ) ^ (-r) * num x0 x1 x2 i c J d q : ℝ) : EReal))
    ∧ acc (ix2 64 q) = (((2 : ℝ) ^ (-r) * den x0 x1 i c J q : ℝ) : EReal)

variable {x0 x1 x2}

theorem raw_real (h0 : Fin' x0) (h1 : Fin' x1) (i : Fin 8) (c : Fin 4) (j : Fin 8) (κ q : Fin 256) :
    ∃ r : ℝ, raw x0 x1 i c j κ q = (r : EReal) := by
  choose X0 e0 using h0
  choose X1 e1 using h1
  refine ⟨∑ f : Fin 128, X1 (ix4 0 0 ⟨256 * j + κ, by omega⟩ f) * (if f.val % 64 / 16 = c.val then X0 (ix4 0 ⟨2 * i + q / 128, by omega⟩ f ⟨q % 128, by omega⟩) else 0), ?_⟩
  rw [coe_sum]
  refine Finset.sum_congr rfl fun f _ => ?_
  rw [EReal.coe_mul]
  refine congrArg₂ (· * ·) (e1 _) ?_
  unfold wq qf
  by_cases h : f.val % 64 / 16 = c.val
  · rw [if_pos h, if_pos h, e0]
  · rw [if_neg h, if_neg h]; rfl

theorem sg_ne_top (h0 : Fin' x0) (h1 : Fin' x1) (i : Fin 8) (c : Fin 4) (j : Fin 8) (κ q : Fin 256) : sg x0 x1 i c j κ q ≠ ⊤ := by
  obtain ⟨r, hr⟩ := raw_real h0 h1 i c j κ q
  unfold sg
  rw [hr]
  split
  · split
    · rw [add_zero]; exact EReal.coe_ne_top r
    · rw [EReal.add_bot]; exact bot_ne_top
  · rw [add_zero]; exact EReal.coe_ne_top r

theorem sg_diag (h0 : Fin' x0) (h1 : Fin' x1) (i : Fin 8) (c : Fin 4) (q : Fin 256) : ∃ r : ℝ, sg x0 x1 i c i q q = (r : EReal) := by
  obtain ⟨r, hr⟩ := raw_real h0 h1 i c i q q
  exact ⟨r, by unfold sg; rw [if_pos rfl, if_pos le_rfl, add_zero, hr]⟩

theorem SC_raw {kb : FVec Ideal S256x128 .bf16} {w : FVec Ideal S128x256 .bf16} {i j : Fin 8} {c : Fin 4}
    (hk : kb = KB x1 j) (hw : w = WQ x0 i c) (κ q : Fin 256) : SC kb w (ix2 κ q) = raw x0 x1 i c j κ q := by
  subst hk; subst hw
  rw [SC_at]; rfl

/-- What a block adds under a real shift. -/
theorem blk_at (h0 : Fin' x0) (h1 : Fin' x1) (h2 : Fin' x2) {i j : Fin 8} {c : Fin 4} {hh : Fin 2} (hc : hh = hd c) {vx : FVec Ideal S80x256 .bf16}
    {s : FVec Ideal S256x256 .f32} {m : FVec Ideal S1x256 .f32} (hv : vx = VX x2 j hh) (hs : ∀ κ q, s (ix2 κ q) = sg x0 x1 i c j κ q)
    (q : Fin 256) (r : ℝ) (hr : m (ix2 0 q) = (r : EReal)) :
    (∀ d : Fin 64, PV vx (PW (ST s) m) (ix2 ⟨d.val, by omega⟩ q)
      = (((2 : ℝ) ^ (-r) * ∑ κ : Fin 256, (vf x2 j (hd c) d κ).toReal * wt (sg x0 x1 i c j κ q) : ℝ) : EReal))
    ∧ PV vx (PW (ST s) m) (ix2 64 q) = (((2 : ℝ) ^ (-r) * ∑ κ : Fin 256, wt (sg x0 x1 i c j κ q) : ℝ) : EReal) := by
  subst hv; subst hc
  constructor
  · intro d
    rw [PV_at, hr]
    simp only [hs]
    refine sum_shift _ _ _ _ (fun κ => ?_) fun κ => sg_ne_top h0 h1 i c j κ q
    obtain ⟨a, ha⟩ := h2 (ix4 0 ⟨2 * j + κ / 128, by omega⟩ ⟨64 * hd c + d, by have := (hd c).isLt; omega⟩ ⟨κ % 128, by omega⟩)
    have e : VX x2 j (hd c) (ix2 ⟨d.val, by omega⟩ κ) = vf x2 j (hd c) d κ := by
      show vo x2 j (hd c) ⟨d.val, by omega⟩ κ = _
      unfold vo; rw [dif_pos d.isLt]
    rw [e]
    unfold vf
    rw [ha]; rfl
  · rw [PV_at, hr]
    simp only [hs]
    refine (sum_shift _ _ (fun _ => 1) _ (fun κ => ?_) fun κ => sg_ne_top h0 h1 i c j κ q).trans (by simp only [one_mul])
    show vo x2 j (hd c) 64 κ = _
    unfold vo; rw [dif_neg (by decide)]; rfl

/-- The first block, the diagonal one. -/
theorem init (h0 : Fin' x0) (h1 : Fin' x1) (h2 : Fin' x2) {i : Fin 8} {c : Fin 4} (hh : Fin 2) (hc : hh = hd c)
    {m : FVec Ideal S1x256 .f32} {acc : FVec Ideal S80x256 .f32} {kb : FVec Ideal S256x128 .bf16} {w : FVec Ideal S128x256 .bf16}
    {vx : FVec Ideal S80x256 .bf16} {dm s : FVec Ideal S256x256 .f32} {pr pw : FVec Ideal S1x256x256 .bf16} {sr sw : FVec Ideal S1x256x256 .f32}
    (hacc : acc = PV vx pr) (hp : pr = pw) (hp' : pw = PW sr m) (hs : sr = sw) (hs' : sw = ST s) (hm : m = MX s)
    (hd' : s = addf (SC kb w) dm) (hdm : dm = DM) (hk : kb = KB x1 i) (hw : w = WQ x0 i c) (hv : vx = VX x2 i hh) :
    St x0 x1 x2 i c {i} m acc := by
  subst hp' hp hs' hs hacc hdm
  have hsg : ∀ κ q, s (ix2 κ q) = sg x0 x1 i c i κ q := by
    intro κ q
    subst hd'
    show SC kb w (ix2 κ q) + DM (ix2 κ q) = _
    rw [SC_raw hk hw, DM_at]
    unfold sg; rw [if_pos rfl]
  intro q
  obtain ⟨a, ha⟩ := sg_diag (x0 := x0) (x1 := x1) h0 h1 i c q
  obtain ⟨r, hr⟩ := sup_real (fun κ => s (ix2 κ q)) (fun κ => by rw [hsg]; exact sg_ne_top h0 h1 i c i κ q) q a (by rw [hsg, ha])
  have hmr : m (ix2 0 q) = (r : EReal) := by rw [hm, MX_at, hr]
  obtain ⟨b1, b2⟩ := blk_at h0 h1 h2 hc hv hsg q r hmr
  refine ⟨r, hmr, fun d => (b1 d).trans ?_, b2.trans ?_⟩
  · unfold num; rw [Finset.sum_singleton]
  · unfold den; rw [Finset.sum_singleton]

/-- A further block. -/
theorem step (h0 : Fin' x0) (h1 : Fin' x1) (h2 : Fin' x2) {i j : Fin 8} {c : Fin 4} {J : Finset (Fin 8)} (hh : Fin 2) (hc : hh = hd c) (hji : j ≠ i) (hj : j ∉ J)
    {m m' : FVec Ideal S1x256 .f32} {acc acc' : FVec Ideal S80x256 .f32} {kb : FVec Ideal S256x128 .bf16} {w : FVec Ideal S128x256 .bf16}
    {vx : FVec Ideal S80x256 .bf16} {s : FVec Ideal S256x256 .f32} {pr pw : FVec Ideal S1x256x256 .bf16} {sr sw : FVec Ideal S1x256x256 .f32}
    (hacc : acc' = AC m m' acc (PV vx pr)) (hp : pr = pw) (hp' : pw = PW sr m') (hs : sr = sw) (hs' : sw = ST s)
    (hm : m' = maximumf m (MX s)) (hd' : s = SC kb w) (hk : kb = KB x1 j) (hw : w = WQ x0 i c) (hv : vx = VX x2 j hh)
    (hS : St x0 x1 x2 i c J m acc) : St x0 x1 x2 i c (insert j J) m' acc' := by
  subst hp' hp hs' hs hacc
  have hsg : ∀ κ q, s (ix2 κ q) = sg x0 x1 i c j κ q := by
    intro κ q
    subst hd'
    rw [SC_raw hk hw]
    unfold sg; rw [if_neg hji, add_zero]
  intro q
  obtain ⟨r, hr, n1, n2⟩ := hS q
  obtain ⟨r', hr'⟩ := max_real r (MX s (ix2 0 q)) (by
    rw [MX_at]; exact sup_ne_top _ fun κ => by rw [hsg]; exact sg_ne_top h0 h1 i c j κ q)
  have hmr : m' (ix2 0 q) = (r' : EReal) := by
    rw [hm, ← hr', ← hr]; rfl
  obtain ⟨b1, b2⟩ := blk_at h0 h1 h2 hc hv hsg q r' hmr
  refine ⟨r', hmr, fun d => ?_, ?_⟩
  · rw [AC_at, b1, n1, hr, hmr, rescale]
    unfold num; rw [Finset.sum_insert hj]
  · rw [AC_at, b2, n2, hr, hmr, rescale]
    unfold den; rw [Finset.sum_insert hj]

end Cert.DiffStep

end
-- ==== Proof.DiffFin.lean ====
/- Hand-written, untrusted: the last step of a query block — the two maps' normalised sums, their difference, its norm. -/
module

public import proofs.«01_k».proof.Proof.DiffStep

@[expose] public section

set_option maxRecDepth 16384

noncomputable section

open Idealize.ShloMosaic Idealize.ShloMosaic.TcCoe Idealize.SL.Sem
open scoped BigOperators

namespace Cert.DiffStep
open Cert.DiffIdeal Cert.DiffIdeal.Gen Cert.DiffSoft

/-- The accumulated values over the accumulated weights. -/
def OV (a : FVec Ideal S80x256 .f32) : FVec Ideal S64x256 .f32 :=
  mulf (extractStridedSlice S64x256 ![0, 0] a slices_S80x256_o0_0_S64x256) (broadcastTo S64x256 (divf (broadcast S1x256 (Scalar.ofBits .f32 0x3F800000#32)) (extractStridedSlice S1x256 ![64, 0] a slices_S80x256_o64_0_S1x256)) broadcasts_S1x256_S64x256)

/-- The difference of the two maps. -/
def DV (lam : FVec Ideal S1x1 .f32) (a0 a1 : FVec Ideal S80x256 .f32) : FVec Ideal S64x256 .f32 :=
  subf (OV a0) (mulf (broadcastTo S64x256 lam broadcasts_S1x1_S64x256) (OV a1))

/-- Its norm, with the gain. -/
def NV (gain : FVec Ideal S64x1 .f32) (d : FVec Ideal S64x256 .f32) : FVec Ideal S64x256 .f32 :=
  mulf (mulf d (broadcastTo S64x256 (rsqrt (addf (divf (shapeCast S1x256 (multiReduction .add [0] S256 (mulf d d) 0x00000000#32 reduces_S64x256_S256 (.inl rfl) rfl) shapeCasts_S256_S1x256) (broadcast S1x256 (Scalar.ofBits .f32 0x42800000#32))) (broadcast S1x256 (Scalar.ofBits .f32 0x358637BD#32)))) broadcasts_S1x256_S64x256)) (broadcastTo S64x256 gain broadcasts_S64x1_S64x256)

/-- The stored tile of a query block. -/
def FV (u v : FVec Ideal S64x256 .f32) : FVec Ideal S1x1x256x128 .bf16 :=
  shapeCast S1x1x256x128 (truncf .bf16 (transpose S256x128 [1, 0] (concatenate S128x256 0 [⟨S64x256, u⟩, ⟨S64x256, v⟩] concatenates_S64x256_S64x256_S128x256_d0) transposes_S128x256_p1_0_S256x128) bitsLt_bf16_f32) shapeCasts_S256x128_S1x1x256x128

/-- The norm of a head's row, with a gain. -/
def nrm64 (o g : Fin 64 → EReal) (d : Fin 64) : EReal :=
  o d * Ideal.rsqrt (Ideal.div (∑ e, o e * o e) (Ideal.ofBits .f32 0x42800000#32) + Ideal.ofBits .f32 0x358637BD#32) * g d

theorem OV_at (a : FVec Ideal S80x256 .f32) (d : Fin 64) (q : Fin 256) :
    OV a (ix2 d q) = a (ix2 ⟨d.val, by omega⟩ q) * Ideal.div (Ideal.ofBits .f32 0x3F800000#32) (a (ix2 64 q)) := by
  pointwise! [OV]

theorem DV_at (lam : FVec Ideal S1x1 .f32) (a0 a1 : FVec Ideal S80x256 .f32) (d : Fin 64) (q : Fin 256) :
    DV lam a0 a1 (ix2 d q) = OV a0 (ix2 d q) - lam (ix2 0 0) * OV a1 (ix2 d q) := by
  pointwise! [DV]

theorem NV_at (gain : FVec Ideal S64x1 .f32) (x : FVec Ideal S64x256 .f32) (d : Fin 64) (q : Fin 256) :
    NV gain x (ix2 d q) = nrm64 (fun d => x (ix2 d q)) (fun d => gain (ix2 d 0)) d := by
  pointwise! [NV, nrm64]

theorem FV_at (u v : FVec Ideal S64x256 .f32) (q : Fin 256) (f : Fin 128) :
    FV u v (ix4 0 0 q f) = if h : f.val < 64 then u (ix2 ⟨f.val, h⟩ q) else v (ix2 ⟨f.val - 64, by omega⟩ q) := by
  pointwise! [FV]

theorem one_word : Ideal.ofBits .f32 0x3F800000#32 = 1 := by
  simp only [Ideal.ofBits_one_f32]

/-- A map's normalised sum. -/
def avg (x0 : FVec Ideal S1x16x128x128 .bf16) (x1 : FVec Ideal S1x1x2048x128 .bf16) (x2 : FVec Ideal S1x16x128x128 .bf16) (i : Fin 8) (c : Fin 4)
    (d : Fin 64) (q : Fin 256) : ℝ :=
  num x0 x1 x2 i c (Finset.univ.filter (· ≤ i)) d q / den x0 x1 i c (Finset.univ.filter (· ≤ i)) q

variable {x0 : FVec Ideal S1x16x128x128 .bf16} {x1 : FVec Ideal S1x1x2048x128 .bf16} {x2 : FVec Ideal S1x16x128x128 .bf16}

theorem den_pos (h0 : Fin' x0) (h1 : Fin' x1) (i : Fin 8) (c : Fin 4) (J : Finset (Fin 8)) (hi : i ∈ J) (q : Fin 256) : 0 < den x0 x1 i c J q := by
  unfold den
  obtain ⟨a, ha⟩ := sg_diag (x0 := x0) (x1 := x1) h0 h1 i c q
  refine Finset.sum_pos' (fun j _ => Finset.sum_nonneg fun κ _ => wt_nonneg _ (sg_ne_top h0 h1 i c j κ q)) ⟨i, hi, ?_⟩
  refine Finset.sum_pos' (fun κ _ => wt_nonneg _ (sg_ne_top h0 h1 i c i κ q)) ⟨q, Finset.mem_univ q, ?_⟩
  rw [ha]; exact wt_pos a

/-- The accumulator over its row of ones is the map's normalised sum, whatever the shift. -/
theorem OV_avg (h0 : Fin' x0) (h1 : Fin' x1) {i : Fin 8} {c : Fin 4} {J : Finset (Fin 8)} (hJ : J = Finset.univ.filter (· ≤ i))
    {m : FVec Ideal S1x256 .f32} {acc : FVec Ideal S80x256 .f32} (hS : St x0 x1 x2 i c J m acc) (d : Fin 64) (q : Fin 256) :
    OV acc (ix2 d q) = ((avg x0 x1 x2 i c d q : ℝ) : EReal) := by
  subst hJ
  obtain ⟨r, -, n1, n2⟩ := hS q
  have hp := den_pos h0 h1 i c (Finset.univ.filter (· ≤ i)) (by simp) q
  have h2 : (0 : ℝ) < (2 : ℝ) ^ (-r) := by positivity
  rw [OV_at, n1, n2, one_word, Ideal.div_coe (mul_pos h2 hp).ne', one_mul, ← EReal.coe_mul]
  congr 1
  unfold avg
  field_simp

/-- The head of a lane, and its feature. -/
def outrow (x0 : FVec Ideal S1x16x128x128 .bf16) (x1 : FVec Ideal S1x1x2048x128 .bf16) (x2 : FVec Ideal S1x16x128x128 .bf16) (lam : ℝ)
    (g : Fin 64 → EReal) (i : Fin 8) (q : Fin 256) (f : Fin 128) : EReal :=
  nrm64 (fun d => ((avg x0 x1 x2 i ⟨2 * (f.val / 64), by omega⟩ d q - lam * avg x0 x1 x2 i ⟨2 * (f.val / 64) + 1, by omega⟩ d q : ℝ) : EReal)) g ⟨f.val % 64, by omega⟩

/-- A query block's tile, from its four states. -/
theorem fin (h0 : Fin' x0) (h1 : Fin' x1) {i : Fin 8} {J : Finset (Fin 8)} {w : FVec Ideal S1x1x256x128 .bf16} {lam : FVec Ideal S1x1 .f32}
    {gain : FVec Ideal S64x1 .f32} {m0 m1 m2 m3 : FVec Ideal S1x256 .f32} {a0 a1 a2 a3 : FVec Ideal S80x256 .f32} (l : ℝ) (hl : lam (ix2 0 0) = (l : EReal))
    (hw : w = FV (NV gain (DV lam a0 a1)) (NV gain (DV lam a2 a3))) (hJ : J = Finset.univ.filter (· ≤ i))
    (s0 : St x0 x1 x2 i 0 J m0 a0) (s1 : St x0 x1 x2 i 1 J m1 a1) (s2 : St x0 x1 x2 i 2 J m2 a2) (s3 : St x0 x1 x2 i 3 J m3 a3) (q : Fin 256) (f : Fin 128) :
    w (ix4 0 0 q f) = outrow x0 x1 x2 l (fun d => gain (ix2 d 0)) i q f := by
  subst hw
  have e : ∀ (a b : FVec Ideal S80x256 .f32) (A B : Fin 64 → ℝ), (∀ d, OV a (ix2 d q) = ((A d : ℝ) : EReal)) → (∀ d, OV b (ix2 d q) = ((B d : ℝ) : EReal)) →
      ∀ d, DV lam a b (ix2 d q) = ((A d - l * B d : ℝ) : EReal) := by
    intro a b A B hA hB d
    rw [DV_at, hA, hB, hl, ← EReal.coe_mul, ← EReal.coe_sub]
  rw [FV_at]
  unfold outrow
  by_cases hf : f.val < 64
  · rw [dif_pos hf, NV_at]
    have e0 : f.val / 64 = 0 := by omega
    have e1 : f.val % 64 = f.val := by omega
    simp only [e _ _ _ _ (fun d => OV_avg h0 h1 hJ s0 d q) (fun d => OV_avg h0 h1 hJ s1 d q), e0, e1]
    rfl
  · rw [dif_neg hf, NV_at]
    have e0 : f.val / 64 = 1 := by omega
    have e1 : f.val % 64 = f.val - 64 := by omega
    simp only [e _ _ _ _ (fun d => OV_avg h0 h1 hJ s2 d q) (fun d => OV_avg h0 h1 hJ s3 d q), e0, e1]
    rfl

end Cert.DiffStep

end
-- ==== Proof.DiffLeaf.lean ====
/- Hand-written, untrusted: the operands of a block's products, as the launch reads them. -/
module

public import proofs.«01_k».proof.Proof.Gen.DiffIdeal.Value
public import proofs.«01_k».proof.Proof.DiffFin
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.DiffStep
open Cert.DiffIdeal Cert.DiffIdeal.Gen Cert.DiffSoft

theorem kcast (g : FVec Ideal S1x1x256x128 .bf16) (h' : _) (κ : Fin 256) (f : Fin 128) :
    (shapeCast S256x128 g h' : FVec Ideal S256x128 .bf16) (ix2 κ f) = g (ix4 0 0 κ f) := by
  pointwise

theorem qcast (g : FVec Ideal S1x1x128x128 .bf16) (h' : _) (f : Fin 128) (q : Fin 128) :
    (shapeCast S128x128 g h' : FVec Ideal S128x128 .bf16) (ix2 f q) = g (ix4 0 0 f q) := by
  pointwise

theorem vcast (g : FVec Ideal S1x1x64x128 .bf16) (h' : _) (f : Fin 64) (q : Fin 128) :
    (shapeCast S64x128 g h' : FVec Ideal S64x128 .bf16) (ix2 f q) = g (ix4 0 0 f q) := by
  pointwise

theorem kb_word (arg3 : Memref sig .tc .vmem S1x1x2048x128 .bf16) (harg3 : arg3.IsWhole) (x1 : FVec Ideal S1x1x2048x128 .bf16) (j : Fin 8) (a : Nat) (ha : a = 256 * j.val)
    (h : _) (h' : _) :
    (shapeCast S256x128 (View.readAt (Elt Ideal) arg3.view (Rect.unit (s := S1x1x2048x128) ![0, 0, a, 0] S1x1x256x128.size h).toLoadRect (harg3.unread x1)) h' : FVec Ideal S256x128 .bf16)
      = KB x1 j := by
  subst ha
  funext y
  idx_vars y
  rw [kcast, View.readAt_apply, harg3.read_unread]
  refine congrArg x1 (funext fun a => Fin.ext ?_)
  fin_cases a <;> simp [LoadRect.idx, ix4]

theorem q_word (arg2 : Memref sig .tc .vmem S1x16x128x128 .bf16) (harg2 : arg2.IsWhole) (x0 : FVec Ideal S1x16x128x128 .bf16) (a : Nat) (ha : a < 16)
    (h : _) (h' : _) (f : Fin 128) (q : Fin 128) :
    (shapeCast S128x128 (View.readAt (Elt Ideal) arg2.view (Rect.unit (s := S1x16x128x128) ![0, a, 0, 0] S1x1x128x128.size h).toLoadRect (harg2.unread x0)) h' : FVec Ideal S128x128 .bf16) (ix2 f q)
      = x0 (ix4 0 ⟨a, ha⟩ f q) := by
  rw [qcast, View.readAt_apply, harg2.read_unread]
  refine congrArg x0 (funext fun a => Fin.ext ?_)
  fin_cases a <;> simp [LoadRect.idx, ix4]

theorem v_word (arg4 : Memref sig .tc .vmem S1x16x128x128 .bf16) (harg4 : arg4.IsWhole) (x2 : FVec Ideal S1x16x128x128 .bf16) (a b : Nat) (ha : a < 16) (hb : b ≤ 64)
    (h : _) (h' : _) (f : Fin 64) (q : Fin 128) :
    (shapeCast S64x128 (View.readAt (Elt Ideal) arg4.view (Rect.unit (s := S1x16x128x128) ![0, a, b, 0] S1x1x64x128.size h).toLoadRect (harg4.unread x2)) h' : FVec Ideal S64x128 .bf16) (ix2 f q)
      = x2 (ix4 0 ⟨a, ha⟩ ⟨b + f.val, by omega⟩ q) := by
  rw [vcast, View.readAt_apply, harg4.read_unread]
  refine congrArg x2 (funext fun a => Fin.ext ?_)
  fin_cases a <;> simp [LoadRect.idx, ix4]

theorem row_word (a : Memref sig .tc .vmem S1x32 .f32) (ha : a.IsWhole) (x : FVec Ideal S1x32 .f32) (h : _) (h' : _) :
    (shapeCast S1x32 (View.readAt (Elt Ideal) a.view (Rect.unit (s := S1x32) ![0, 0] S1x32.size h).toLoadRect (ha.unread x)) h' : FVec Ideal S1x32 .f32) = x := by
  funext y
  idx_vars y
  obtain rfl : y0 = 0 := by omega
  refine (?_ : _ = View.readAt (Elt Ideal) a.view (Rect.unit (s := S1x32) ![0, 0] S1x32.size h).toLoadRect (ha.unread x) (ix2 0 y1)).trans ?_
  · pointwise
  rw [View.readAt_apply, ha.read_unread]
  refine congrArg x (funext fun a => Fin.ext ?_)
  fin_cases a <;> simp [LoadRect.idx, ix2]

theorem col_word (a : Memref sig .tc .vmem S64x1 .f32) (ha : a.IsWhole) (x : FVec Ideal S64x1 .f32) (h : _) (h' : _) :
    (shapeCast S64x1 (View.readAt (Elt Ideal) a.view (Rect.unit (s := S64x1) ![0, 0] S64x1.size h).toLoadRect (ha.unread x)) h' : FVec Ideal S64x1 .f32) = x := by
  funext y
  idx_vars y
  obtain rfl : y1 = 0 := by omega
  refine (?_ : _ = View.readAt (Elt Ideal) a.view (Rect.unit (s := S64x1) ![0, 0] S64x1.size h).toLoadRect (ha.unread x) (ix2 y0 0)).trans ?_
  · pointwise
  rw [View.readAt_apply, ha.read_unread]
  refine congrArg x (funext fun a => Fin.ext ?_)
  fin_cases a <;> simp [LoadRect.idx, ix2]

/-- The weight of the second map, as vectors. -/
def LM (a b d e : FVec Ideal S1x32 .f32) : FVec Ideal S1x1 .f32 :=
  addf (subf (exp (shapeCast S1x1 (multiReduction .add [1] S1 (mulf a b) 0x00000000#32 reduces_S1x32_S1 (.inl rfl) rfl) shapeCasts_S1_S1x1))
    (exp (shapeCast S1x1 (multiReduction .add [1] S1 (mulf d e) 0x00000000#32 reduces_S1x32_S1 (.inl rfl) rfl) shapeCasts_S1_S1x1))) (broadcast S1x1 (Scalar.ofBits .f32 0x3E4CCCCD#32))

theorem LM_at (a b d e : FVec Ideal S1x32 .f32) : LM a b d e (ix2 0 0)
    = Ideal.exp (∑ k : Fin 32, a (ix2 0 k) * b (ix2 0 k)) - Ideal.exp (∑ k : Fin 32, d (ix2 0 k) * e (ix2 0 k)) + Ideal.ofBits .f32 0x3E4CCCCD#32 := by
  pointwise! [LM]

def GN (a : FVec Ideal S64x1 .f32) : FVec Ideal S64x1 .f32 := mulf a (broadcast S64x1 (Scalar.ofBits .f32 0x3F4CCCCD#32))

theorem GN_at (a : FVec Ideal S64x1 .f32) (d : Fin 64) : GN a (ix2 d 0) = a (ix2 d 0) * Ideal.ofBits .f32 0x3F4CCCCD#32 := by
  pointwise! [GN]

/-- The map a feature belongs to, as the words compute it. -/
theorem sub_at (f : Fin 128) (q : Fin 256) : kernelRun0_A.sl.v63 (ix2 f q) = BitVec.ofNat 32 (f.val % 64 / 16) := by
  pointwise [kernelRun0_A.sl.v63, kernelRun0_A.sl.v62, kernelRun0_A.sl.v55, kernelRun0_A.sl.v44, kernelRun0_A.sl.v47, kernelRun0_A.sl.v59, kernelRun0_A.sl.v54, kernelRun0_A.sl.v39, kernelRun0_A.sl.v40,
    kernelRun0_A.sl.v38, kernelRun0_A.sl.v35, kernelRun0_A.sl.v33, kernelRun0_A.sl.v31, kernelRun0_A.sl.v29, kernelRun0_A.sl.v28, kernelRun0_A.sl.v26, kernelRun0_A.sl.v23]
  clear q
  revert f
  decide +kernel

theorem sub_eq : ∀ (a : Fin 128) (c : Fin 4), IntOp.cmpi CmpIPredicate.eq (BitVec.ofNat 32 (a.val % 64 / 16)) (BitVec.ofNat 32 c.val) = if a.val % 64 / 16 = c.val then 1#1 else 0#1 := by
  decide +kernel

theorem catQ (a b : FVec Ideal S128x128 .bf16) (f : Fin 128) (q : Fin 256) :
    (concatenate S128x256 1 [⟨S128x128, a⟩, ⟨S128x128, b⟩] concatenates_S128x128_S128x128_S128x256_d1 : FVec Ideal S128x256 .bf16) (ix2 f q)
      = if h : q.val < 128 then a (ix2 f ⟨q.val, h⟩) else b (ix2 f ⟨q.val - 128, by omega⟩) := by
  pointwise!

theorem selQ (b : BitVec 32) (u : FVec Ideal S128x256 .bf16) (f : Fin 128) (q : Fin 256) :
    (select (cmpi CmpIPredicate.eq kernelRun0_A.sl.v63 (broadcast S128x256 b)) u (broadcast S128x256 (Scalar.ofBits (F := Ideal) .bf16 0x0000#16)) : FVec Ideal S128x256 .bf16) (ix2 f q)
      = Scalar.select (IntOp.cmpi CmpIPredicate.eq (kernelRun0_A.sl.v63 (ix2 f q)) b) (u (ix2 f q)) 0 := by
  pointwise!

theorem wq_word (arg2 : Memref sig .tc .vmem S1x16x128x128 .bf16) (harg2 : arg2.IsWhole) (x0 : FVec Ideal S1x16x128x128 .bf16) (i : Fin 8) (c : Fin 4)
    (a b : Nat) (w : BitVec 32) (ha : a = 2 * i.val) (hb : b = 2 * i.val + 1) (hw : w = BitVec.ofNat 32 c.val) (h0 h1 : _) (h' h'' : _) :
    (select (cmpi CmpIPredicate.eq kernelRun0_A.sl.v63 (broadcast S128x256 w))
      (concatenate S128x256 1 [
        ⟨S128x128, (shapeCast S128x128 (View.readAt (Elt Ideal) arg2.view (Rect.unit (s := S1x16x128x128) ![0, a, 0, 0] S1x1x128x128.size h0).toLoadRect (harg2.unread x0)) h' : FVec Ideal S128x128 .bf16)⟩,
        ⟨S128x128, (shapeCast S128x128 (View.readAt (Elt Ideal) arg2.view (Rect.unit (s := S1x16x128x128) ![0, b, 0, 0] S1x1x128x128.size h1).toLoadRect (harg2.unread x0)) h'' : FVec Ideal S128x128 .bf16)⟩]
        concatenates_S128x128_S128x128_S128x256_d1 : FVec Ideal S128x256 .bf16)
      (broadcast S128x256 (Scalar.ofBits (F := Ideal) .bf16 0x0000#16)) : FVec Ideal S128x256 .bf16) = WQ x0 i c := by
  subst ha hb hw
  funext y
  idx_vars y
  rw [selQ, sub_at, sub_eq, catQ]
  show _ = wq x0 i c y0 y1
  unfold wq qf
  by_cases hf : y0.val % 64 / 16 = c.val
  · rw [if_pos hf, if_pos hf]
    show dite _ _ _ = _
    by_cases hq : y1.val < 128
    · have e0 : y1.val / 128 = 0 := by omega
      have e1 : y1.val % 128 = y1.val := by omega
      rw [dif_pos hq, q_word _ _ _ _ (by omega)]
      simp only [e0, e1, Nat.add_zero]
    · have e0 : y1.val / 128 = 1 := by omega
      have e1 : y1.val % 128 = y1.val - 128 := by omega
      rw [dif_neg hq, q_word _ _ _ _ (by omega)]
      simp only [e0, e1]
  · rw [if_neg hf, if_neg hf]
    rfl

theorem catV (a b : FVec Ideal S64x128 .bf16) (d : Fin 80) (κ : Fin 256) :
    (concatenate S80x256 0 [⟨S64x256, (concatenate S64x256 1 [⟨S64x128, a⟩, ⟨S64x128, b⟩] concatenates_S64x128_S64x128_S64x256_d1 : FVec Ideal S64x256 .bf16)⟩, ⟨S16x256, (k0_pay12 : FVec Ideal S16x256 .bf16)⟩] concatenates_S64x256_S16x256_S80x256_d0 : FVec Ideal S80x256 .bf16) (ix2 d κ)
      = if hd : d.val < 64 then (if h : κ.val < 128 then a (ix2 ⟨d.val, hd⟩ ⟨κ.val, h⟩) else b (ix2 ⟨d.val, hd⟩ ⟨κ.val - 128, by omega⟩)) else 1 := by
  pointwise! [k0_pay12]

theorem vx_word (arg4 : Memref sig .tc .vmem S1x16x128x128 .bf16) (harg4 : arg4.IsWhole) (x2 : FVec Ideal S1x16x128x128 .bf16) (j : Fin 8) (hh : Fin 2)
    (a b e : Nat) (ha : a = 2 * j.val) (hb : b = 2 * j.val + 1) (he : e = 64 * hh.val) (h0 h1 : _) (h' h'' : _) :
    (concatenate S80x256 0 [⟨S64x256, (concatenate S64x256 1 [
        ⟨S64x128, (shapeCast S64x128 (View.readAt (Elt Ideal) arg4.view (Rect.unit (s := S1x16x128x128) ![0, a, e, 0] S1x1x64x128.size h0).toLoadRect (harg4.unread x2)) h' : FVec Ideal S64x128 .bf16)⟩,
        ⟨S64x128, (shapeCast S64x128 (View.readAt (Elt Ideal) arg4.view (Rect.unit (s := S1x16x128x128) ![0, b, e, 0] S1x1x64x128.size h1).toLoadRect (harg4.unread x2)) h'' : FVec Ideal S64x128 .bf16)⟩]
        concatenates_S64x128_S64x128_S64x256_d1 : FVec Ideal S64x256 .bf16)⟩, ⟨S16x256, (k0_pay12 : FVec Ideal S16x256 .bf16)⟩] concatenates_S64x256_S16x256_S80x256_d0 : FVec Ideal S80x256 .bf16) = VX x2 j hh := by
  subst ha hb he
  funext y
  idx_vars y
  rw [catV]
  show _ = vo x2 j hh y0 y1
  unfold vo vf
  by_cases hd : y0.val < 64
  · rw [dif_pos hd, dif_pos hd]
    by_cases hq : y1.val < 128
    · have e0 : y1.val / 128 = 0 := by omega
      have e1 : y1.val % 128 = y1.val := by omega
      rw [dif_pos hq, v_word _ _ _ _ _ (by omega) (by omega)]
      simp only [e0, e1, Nat.add_zero]
    · have e0 : y1.val / 128 = 1 := by omega
      have e1 : y1.val % 128 = y1.val - 128 := by omega
      rw [dif_neg hq, v_word _ _ _ _ _ (by omega) (by omega)]
      simp only [e0, e1]
  · rw [dif_neg hd, dif_neg hd]

end Cert.DiffStep

end
-- ==== Proof.DiffWords.lean ====
/- Hand-written, untrusted: the launch's own words for each query block, read as the block-wise softmax. -/
module

public import proofs.«01_k».proof.Proof.DiffLeaf

@[expose] public section

set_option maxRecDepth 16384

noncomputable section

open Idealize.ShloMosaic Idealize.ShloMosaic.TcCoe Idealize.SL.Sem
open scoped BigOperators

namespace Cert.DiffStep
open Cert.DiffIdeal Cert.DiffIdeal.Gen Cert.DiffSoft

theorem rd_skip {sig : RefSig} {κ : Kind} {sp : Space} {sh : Shape} {e : EltTy} {Val : EltTy → Type} [∀ e, Nonempty (Val e)] {v : View sig κ sp sh e} {r : Rect sh}
    {w : r.shape.Idx → Val e} {L : List (View.Piece Val sh e)} {B : LoadRect sh} {x y : B.shape.Idx → Val e}
    (hx : x = v.readCov (⟨r, w⟩ :: L) B) (h : LoadRect.disj r B = true) (hy : v.readCov L B = y) : x = y :=
  hx.trans ((View.readCov_skip v r w L B h).trans hy)

/-- The blocks folded in so far: the diagonal one, and those added after it. -/
inductive Ord where
  | diag : Ord
  | more : Fin 8 → Ord → Ord

def Ord.set (i : Fin 8) : Ord → Finset (Fin 8)
  | .diag => {i}
  | .more j o => insert j (o.set i)

/-- The state after a list of blocks. -/
@[irreducible] def StO (x0 : FVec Ideal S1x16x128x128 .bf16) (x1 : FVec Ideal S1x1x2048x128 .bf16) (x2 : FVec Ideal S1x16x128x128 .bf16) (i : Fin 8) (c : Fin 4) (o : Ord)
    (m : FVec Ideal S1x256 .f32) (acc : FVec Ideal S80x256 .f32) : Prop := St x0 x1 x2 i c (o.set i) m acc

theorem StO_iff {x0 x1 x2} {i : Fin 8} {c : Fin 4} {o : Ord} {m acc} : StO x0 x1 x2 i c o m acc ↔ St x0 x1 x2 i c (o.set i) m acc := by
  unfold StO
  exact Iff.rfl

section
variable {x0 : FVec Ideal S1x16x128x128 .bf16} {x1 : FVec Ideal S1x1x2048x128 .bf16} {x2 : FVec Ideal S1x16x128x128 .bf16}

theorem initO (h0 : Fin' x0) (h1 : Fin' x1) (h2 : Fin' x2) {i : Fin 8} {c : Fin 4}
    {m : FVec Ideal S1x256 .f32} {acc : FVec Ideal S80x256 .f32} {kb : FVec Ideal S256x128 .bf16} {w : FVec Ideal S128x256 .bf16}
    {vx : FVec Ideal S80x256 .bf16} {dm s : FVec Ideal S256x256 .f32} {pr pw : FVec Ideal S1x256x256 .bf16} {sr sw : FVec Ideal S1x256x256 .f32}
    (hacc : acc = PV vx pr) (hp : pr = pw) (hp' : pw = PW sr m) (hs : sr = sw) (hs' : sw = ST s) (hm : m = MX s)
    (hd' : s = addf (SC kb w) dm) (hdm : dm = DM) (hk : kb = KB x1 i) (hw : w = WQ x0 i c) (hv : vx = VX x2 i (hd c)) : StO x0 x1 x2 i c .diag m acc :=
  StO_iff.mpr (init h0 h1 h2 _ rfl hacc hp hp' hs hs' hm hd' hdm hk hw hv)

theorem stepO (h0 : Fin' x0) (h1 : Fin' x1) (h2 : Fin' x2) {i j : Fin 8} {c : Fin 4} {o : Ord}
    {m m' : FVec Ideal S1x256 .f32} {acc acc' : FVec Ideal S80x256 .f32} {kb : FVec Ideal S256x128 .bf16} {w : FVec Ideal S128x256 .bf16}
    {vx : FVec Ideal S80x256 .bf16} {s : FVec Ideal S256x256 .f32} {pr pw : FVec Ideal S1x256x256 .bf16} {sr sw : FVec Ideal S1x256x256 .f32}
    (hji : j ≠ i) (hj : j ∉ o.set i) (hacc : acc' = AC m m' acc (PV vx pr)) (hp : pr = pw) (hp' : pw = PW sr m') (hs : sr = sw) (hs' : sw = ST s)
    (hm : m' = maximumf m (MX s)) (hd' : s = SC kb w) (hk : kb = KB x1 j) (hw : w = WQ x0 i c) (hv : vx = VX x2 j (hd c))
    (hS : StO x0 x1 x2 i c o m acc) : StO x0 x1 x2 i c (.more j o) m' acc' :=
  StO_iff.mpr (step h0 h1 h2 _ rfl hji hj hacc hp hp' hs hs' hm hd' hk hw hv (StO_iff.mp hS))

theorem finO (h0 : Fin' x0) (h1 : Fin' x1) {i : Fin 8} {o : Ord} {w : FVec Ideal S1x1x256x128 .bf16} {lam : FVec Ideal S1x1 .f32}
    {gain : FVec Ideal S64x1 .f32} {m0 m1 m2 m3 : FVec Ideal S1x256 .f32} {a0 a1 a2 a3 : FVec Ideal S80x256 .f32} (l : ℝ) (hl : lam (ix2 0 0) = (l : EReal))
    (hw : w = FV (NV gain (DV lam a0 a1)) (NV gain (DV lam a2 a3))) (hJ : o.set i = Finset.univ.filter (· ≤ i))
    (s0 : StO x0 x1 x2 i 0 o m0 a0) (s1 : StO x0 x1 x2 i 1 o m1 a1) (s2 : StO x0 x1 x2 i 2 o m2 a2) (s3 : StO x0 x1 x2 i 3 o m3 a3) (q : Fin 256) (f : Fin 128) :
    w (ix4 0 0 q f) = outrow x0 x1 x2 l (fun d => gain (ix2 d 0)) i q f :=
  fin h0 h1 l hl hw hJ (StO_iff.mp s0) (StO_iff.mp s1) (StO_iff.mp s2) (StO_iff.mp s3) q f

end

variable (c : Dev nD)
  (arg2 : Memref sig .tc .vmem S1x16x128x128 .bf16) (harg2 : arg2.IsWhole) (arg3 : Memref sig .tc .vmem S1x1x2048x128 .bf16) (harg3 : arg3.IsWhole)
  (arg4 : Memref sig .tc .vmem S1x16x128x128 .bf16) (harg4 : arg4.IsWhole) (arg5 : Memref sig .tc .vmem S1x32 .f32) (harg5 : arg5.IsWhole)
  (arg6 : Memref sig .tc .vmem S1x32 .f32) (harg6 : arg6.IsWhole) (arg7 : Memref sig .tc .vmem S1x32 .f32) (harg7 : arg7.IsWhole)
  (arg8 : Memref sig .tc .vmem S1x32 .f32) (harg8 : arg8.IsWhole) (arg9 : Memref sig .tc .vmem S64x1 .f32) (harg9 : arg9.IsWhole)
  (arg11 : Memref sig .tc .vmem S2x256x1024 .f32) (arg12 : Memref sig .tc .vmem S2x256x1024 .bf16)
  (x0 : FVec Ideal S1x16x128x128 .bf16) (x1 : FVec Ideal S1x1x2048x128 .bf16) (x2 : FVec Ideal S1x16x128x128 .bf16)
  (x3 x4 x5 x6 : FVec Ideal S1x32 .f32) (x7 : FVec Ideal S64x1 .f32)
  (h0 : Fin' x0) (h1 : Fin' x1) (h2 : Fin' x2)

section
include h0 h1 h2

set_option maxHeartbeats 8000000 in
/-- Each stored tile. -/
theorem pieces (l : ℝ) (hl : kernelRun0_A.sl.v18 (F := Ideal) c arg5 harg5 arg6 harg6 arg7 harg7 arg8 harg8 x3 x4 x5 x6 (ix2 0 0) = (l : EReal)) (q : Fin 256) (f : Fin 128) :
    kernelRun0_A.sl.v426 (F := Ideal) c arg2 harg2 arg3 harg3 arg4 harg4 arg5 harg5 arg6 harg6 arg7 harg7 arg8 harg8 arg9 harg9 arg11 arg12 x0 x1 x2 x3 x4 x5 x6 x7 (ix4 0 0 q f)
      = outrow x0 x1 x2 l (fun d => kernelRun0_A.sl.v22 (F := Ideal) c arg9 harg9 x7 (ix2 d 0)) 0 q f ∧
    kernelRun0_A.sl.v740 (F := Ideal) c arg2 harg2 arg3 harg3 arg4 harg4 arg5 harg5 arg6 harg6 arg7 harg7 arg8 harg8 arg9 harg9 arg11 arg12 x0 x1 x2 x3 x4 x5 x6 x7 (ix4 0 0 q f)
      = outrow x0 x1 x2 l (fun d => kernelRun0_A.sl.v22 (F := Ideal) c arg9 harg9 x7 (ix2 d 0)) 1 q f ∧
    kernelRun0_A.sl.v1182 (F := Ideal) c arg2 harg2 arg3 harg3 arg4 harg4 arg5 harg5 arg6 harg6 arg7 harg7 arg8 harg8 arg9 harg9 arg11 arg12 x0 x1 x2 x3 x4 x5 x6 x7 (ix4 0 0 q f)
      = outrow x0 x1 x2 l (fun d => kernelRun0_A.sl.v22 (F := Ideal) c arg9 harg9 x7 (ix2 d 0)) 2 q f ∧
    kernelRun0_A.sl.v1752 (F := Ideal) c arg2 harg2 arg3 harg3 arg4 harg4 arg5 harg5 arg6 harg6 arg7 harg7 arg8 harg8 arg9 harg9 arg11 arg12 x0 x1 x2 x3 x4 x5 x6 x7 (ix4 0 0 q f)
      = outrow x0 x1 x2 l (fun d => kernelRun0_A.sl.v22 (F := Ideal) c arg9 harg9 x7 (ix2 d 0)) 3 q f ∧
    kernelRun0_A.sl.v2450 (F := Ideal) c arg2 harg2 arg3 harg3 arg4 harg4 arg5 harg5 arg6 harg6 arg7 harg7 arg8 harg8 arg9 harg9 arg11 arg12 x0 x1 x2 x3 x4 x5 x6 x7 (ix4 0 0 q f)
      = outrow x0 x1 x2 l (fun d => kernelRun0_A.sl.v22 (F := Ideal) c arg9 harg9 x7 (ix2 d 0)) 4 q f ∧
    kernelRun0_A.sl.v3276 (F := Ideal) c arg2 harg2 arg3 harg3 arg4 harg4 arg5 harg5 arg6 harg6 arg7 harg7 arg8 harg8 arg9 harg9 arg11 arg12 x0 x1 x2 x3 x4 x5 x6 x7 (ix4 0 0 q f)
      = outrow x0 x1 x2 l (fun d => kernelRun0_A.sl.v22 (F := Ideal) c arg9 harg9 x7 (ix2 d 0)) 5 q f ∧
    kernelRun0_A.sl.v4230 (F := Ideal) c arg2 harg2 arg3 harg3 arg4 harg4 arg5 harg5 arg6 harg6 arg7 harg7 arg8 harg8 arg9 harg9 arg11 arg12 x0 x1 x2 x3 x4 x5 x6 x7 (ix4 0 0 q f)
      = outrow x0 x1 x2 l (fun d => kernelRun0_A.sl.v22 (F := Ideal) c arg9 harg9 x7 (ix2 d 0)) 6 q f ∧
    k0_pay1 (F := Ideal) (kernelRun0_A.sl.v22 c arg9 harg9 x7) (kernelRun0_A.sl.v5157 c arg2 harg2 arg3 harg3 arg4 harg4 arg5 harg5 arg6 harg6 arg7 harg7 arg8 harg8 arg9 harg9 arg11 arg12 x0 x1 x2 x3 x4 x5 x6 x7)
        (kernelRun0_A.sl.r_10 c arg2 harg2 arg3 harg3 arg4 harg4 arg5 harg5 arg6 harg6 arg7 harg7 arg8 harg8 arg11 arg12 x0 x1 x2 x3 x4 x5 x6) (kernelRun0_A.sl.r_11 c arg2 harg2 arg3 harg3 arg4 harg4 arg5 harg5 arg6 harg6 arg7 harg7 arg8 harg8 arg11 arg12 x0 x1 x2 x3 x4 x5 x6) k0_pay1148 (ix4 0 0 q f)
      = outrow x0 x1 x2 l (fun d => kernelRun0_A.sl.v22 (F := Ideal) c arg9 harg9 x7 (ix2 d 0)) 7 q f := by
  refine ⟨?a, ?b, ?c, ?d, ?e, ?f, ?g, ?h⟩
  case' a => apply finO h0 h1 (o := .diag) l hl rfl (by decide)
  case' b => apply finO h0 h1 (o := (.more 0 .diag)) l hl rfl (by decide)
  case' c => apply finO h0 h1 (o := (.more 1 (.more 0 .diag))) l hl rfl (by decide)
  case' d => apply finO h0 h1 (o := (.more 2 (.more 1 (.more 0 .diag)))) l hl rfl (by decide)
  case' e => apply finO h0 h1 (o := (.more 3 (.more 2 (.more 1 (.more 0 .diag))))) l hl rfl (by decide)
  case' f => apply finO h0 h1 (o := (.more 4 (.more 3 (.more 2 (.more 1 (.more 0 .diag)))))) l hl rfl (by decide)
  case' g => apply finO h0 h1 (o := (.more 5 (.more 4 (.more 3 (.more 2 (.more 1 (.more 0 .diag))))))) l hl rfl (by decide)
  case' h => apply finO h0 h1 (o := (.more 6 (.more 5 (.more 4 (.more 3 (.more 2 (.more 1 (.more 0 .diag)))))))) l hl rfl (by decide)
  all_goals repeat
    first
    |
      apply stepO h0 h1 h2
      · decide
      · decide
      · rfl
      · repeat
          apply rd_skip
          · rfl
          · decide
        exact View.readCov_cons_toLoadRect _ _ _ _
      · rfl
      · repeat
          apply rd_skip
          · rfl
          · decide
        exact View.readCov_cons_toLoadRect _ _ _ _
      · rfl
      · rfl
      · rfl
      · exact kb_word _ harg3 _ _ _ (by decide) _ _
      · exact wq_word _ harg2 _ _ _ _ _ _ (by decide) (by decide) (by decide) _ _ _ _
      · exact vx_word _ harg4 _ _ _ _ _ _ (by decide) (by decide) (by decide) _ _ _ _
    |
      apply initO h0 h1 h2
      · rfl
      · repeat
          apply rd_skip
          · rfl
          · decide
        exact View.readCov_cons_toLoadRect _ _ _ _
      · rfl
      · repeat
          apply rd_skip
          · rfl
          · decide
        exact View.readCov_cons_toLoadRect _ _ _ _
      · rfl
      · rfl
      · rfl
      · rfl
      · exact kb_word _ harg3 _ _ _ (by decide) _ _
      · exact wq_word _ harg2 _ _ _ _ _ _ (by decide) (by decide) (by decide) _ _ _ _
      · exact vx_word _ harg4 _ _ _ _ _ _ (by decide) (by decide) (by decide) _ _ _ _

end

/-- The weight of the second map, from the four vectors. -/
theorem lam_at : kernelRun0_A.sl.v18 (F := Ideal) c arg5 harg5 arg6 harg6 arg7 harg7 arg8 harg8 x3 x4 x5 x6 (ix2 0 0)
    = Ideal.exp (∑ k : Fin 32, x3 (ix2 0 k) * x4 (ix2 0 k)) - Ideal.exp (∑ k : Fin 32, x5 (ix2 0 k) * x6 (ix2 0 k)) + Ideal.ofBits .f32 0x3E4CCCCD#32 := by
  have e : kernelRun0_A.sl.v18 (F := Ideal) c arg5 harg5 arg6 harg6 arg7 harg7 arg8 harg8 x3 x4 x5 x6
      = LM (kernelRun0_A.sl.v1 c arg5 harg5 x3) (kernelRun0_A.sl.v3 c arg6 harg6 x4) (kernelRun0_A.sl.v9 c arg7 harg7 x5) (kernelRun0_A.sl.v11 c arg8 harg8 x6) := rfl
  have e1 : kernelRun0_A.sl.v1 (F := Ideal) c arg5 harg5 x3 = x3 := row_word _ _ _ _ _
  have e2 : kernelRun0_A.sl.v3 (F := Ideal) c arg6 harg6 x4 = x4 := row_word _ _ _ _ _
  have e3 : kernelRun0_A.sl.v9 (F := Ideal) c arg7 harg7 x5 = x5 := row_word _ _ _ _ _
  have e4 : kernelRun0_A.sl.v11 (F := Ideal) c arg8 harg8 x6 = x6 := row_word _ _ _ _ _
  rw [e, e1, e2, e3, e4, LM_at]

theorem gain_at (d : Fin 64) : kernelRun0_A.sl.v22 (F := Ideal) c arg9 harg9 x7 (ix2 d 0) = x7 (ix2 d 0) * Ideal.ofBits .f32 0x3F4CCCCD#32 := by
  have e : kernelRun0_A.sl.v22 (F := Ideal) c arg9 harg9 x7 = GN (kernelRun0_A.sl.v20 c arg9 harg9 x7) := rfl
  have e1 : kernelRun0_A.sl.v20 (F := Ideal) c arg9 harg9 x7 = x7 := col_word _ _ _ _ _
  rw [e, e1, GN_at]

end Cert.DiffStep

end
-- ==== Proof.DiffRefRow.lean ====
/- Hand-written, untrusted: the reference of the differential attention at an index, as plain functions of rows. -/
module

public import proofs.«01_k».proof.Proof.Gen.DiffRefIdeal.Run
public import Idealize.ShloMosaic.Lib.Pointwise

@[expose] public section

set_option maxRecDepth 16384

noncomputable section

open Idealize.ShloMosaic Idealize.ShloMosaic.TcCoe Idealize.SL.Sem
open scoped BigOperators

namespace Cert.DiffRefIdeal.Value
open Cert.DiffRefIdeal Cert.DiffRefIdeal.Gen

def RQ (a : FVec Ideal S32x16x512x128 .bf16) : FVec Ideal S32x2048x8x2x32 .f32 :=
  shapeCast _ (transpose S32x2048x4x2x2x2x16 [0, 1, 2, 4, 5, 3, 6] (shapeCast _ (transpose S32x16x128x512 [0, 1, 3, 2] (extf .f32 a bitsLt_bf16_f32) transposes_S32x16x512x128_S32x16x128x512_0_1_3_2) shapeCasts_S32x16x128x512_S32x2048x4x2x2x2x16) transposes_S32x2048x4x2x2x2x16_S32x2048x4x2x2x2x16_0_1_2_4_5_3_6) shapeCasts_S32x2048x4x2x2x2x16_S32x2048x8x2x32

def RK (a : FVec Ideal S32x4x2048x128 .bf16) : FVec Ideal S32x2048x8x2x32 .f32 :=
  shapeCast _ (transpose S32x2048x4x2x2x2x16 [0, 1, 2, 4, 5, 3, 6] (shapeCast _ (transpose S32x2048x4x128 [0, 2, 1, 3] (extf .f32 a bitsLt_bf16_f32) transposes_S32x4x2048x128_S32x2048x4x128_0_2_1_3) shapeCasts_S32x2048x4x128_S32x2048x4x2x2x2x16) transposes_S32x2048x4x2x2x2x16_S32x2048x4x2x2x2x16_0_1_2_4_5_3_6) shapeCasts_S32x2048x4x2x2x2x16_S32x2048x8x2x32

def RV (a : FVec Ideal S32x16x512x128 .bf16) : FVec Ideal S32x2048x8x64 .f32 :=
  shapeCast _ (transpose S32x16x128x512 [0, 1, 3, 2] (extf .f32 a bitsLt_bf16_f32) transposes_S32x16x512x128_S32x16x128x512_0_1_3_2) shapeCasts_S32x16x128x512_S32x2048x8x64

theorem RV_at (a : FVec Ideal S32x16x512x128 .bf16) (b : Fin 32) (s : Fin 2048) (h : Fin 8) (d : Fin 64) :
    RV a (ix4 b s h d) = a (ix4 b ⟨s / 128, by omega⟩ ⟨64 * h + d, by omega⟩ ⟨s % 128, by omega⟩) := by
  pointwise! [RV]

theorem RQ_at (a : FVec Ideal S32x16x512x128 .bf16) (b : Fin 32) (s : Fin 2048) (h : Fin 8) (e : Fin 2) (d : Fin 32) :
    RQ a (ix5 b s h e d) = a (ix4 b ⟨s / 128, by omega⟩ ⟨128 * (h / 2) + (64 * (d / 16) + 32 * (h % 2) + 16 * e + d % 16), by omega⟩ ⟨s % 128, by omega⟩) := by
  pointwise! [RQ]

theorem RK_at (a : FVec Ideal S32x4x2048x128 .bf16) (b : Fin 32) (s : Fin 2048) (h : Fin 8) (e : Fin 2) (d : Fin 32) :
    RK a (ix5 b s h e d) = a (ix4 b ⟨h / 2, by omega⟩ s ⟨64 * (d / 16) + 32 * (h % 2) + 16 * e + d % 16, by omega⟩) := by
  pointwise! [RK]

/-- Each index's chunk of 64. -/
def RC : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- The masked scores. -/
def RS (q k : FVec Ideal S32x2048x8x2x32 .f32) : FVec Ideal S32x8x2x2048x2048 .f32 :=
  select (broadcastInDim S32x8x2x2048x2048 ![3, 4] bcast_S2048x2048_S32x8x2x2048x2048_3_4 (cmpi .sle (broadcastInDim S2048x2048 ![0, 1] bcast_S1x2048_S2048x2048_0_1 (broadcastInDim S1x2048 ![1] bcast_S2048_S1x2048_1 RC)) (broadcastInDim S2048x2048 ![0, 1] bcast_S2048x1_S2048x2048_0_1 (broadcastInDim S2048x1 ![0] bcast_S2048_S2048x1_0 RC)))) (mulf (Host.dotGeneral dot_S32x2048x8x2x32_S32x2048x8x2x32_S32x8x2x2048x2048_4_4_1_1_023_023 none q k) (broadcastInDim S32x8x2x2048x2048 ![] bcast_S_S32x8x2x2048x2048 (Host.log (constant S_ .f32 0x40000000#32)))) (broadcastInDim S32x8x2x2048x2048 ![] bcast_S_S32x8x2x2048x2048 (id (constant S_ .f32 0xFF800000#32)))

/-- The greatest score of each row. -/
def RM (s : FVec Ideal S32x8x2x2048x2048 .f32) : FVec Ideal S32x8x2x2048 .f32 :=
  Host.reduce FloatOps.maximumf s (constant S_ .f32 0xFF800000#32) reducesTo_S32x8x2x2048x2048_S32x8x2x2048_d4 h_S_

/-- The unnormalised weights. -/
def RE (s : FVec Ideal S32x8x2x2048x2048 .f32) (m : FVec Ideal S32x8x2x2048 .f32) : FVec Ideal S32x8x2x2048x2048 .f32 :=
  Host.exp (subf s (broadcastInDim S32x8x2x2048x2048 ![0, 1, 2, 3, 4] bcast_S32x8x2x2048x1_S32x8x2x2048x2048_0_1_2_3_4 (broadcastInDim S32x8x2x2048x1 ![0, 1, 2, 3] bcast_S32x8x2x2048_S32x8x2x2048x1_0_1_2_3 (maximumf (broadcastInDim S32x8x2x2048 ![] bcast_S_S32x8x2x2048 (constant S_ .f32 0xFF800000#32)) m))))

/-- The softmax. -/
def RP (e : FVec Ideal S32x8x2x2048x2048 .f32) : FVec Ideal S32x8x2x2048x2048 .f32 :=
  Host.divf e (broadcastInDim S32x8x2x2048x2048 ![0, 1, 2, 3, 4] bcast_S32x8x2x2048x1_S32x8x2x2048x2048_0_1_2_3_4 (broadcastInDim S32x8x2x2048x1 ![0, 1, 2, 3] bcast_S32x8x2x2048_S32x8x2x2048x1_0_1_2_3 (Host.reduceAdd e (constant S_ .f32 0x00000000#32) reducesTo_S32x8x2x2048x2048_S32x8x2x2048_d4 h_S_)))

/-- The second map's weight. -/
def RL (a3 a4 a5 a6 : FVec Ideal S1x32 .f32) : FVec Ideal S_ .f32 :=
  addf (subf (Host.exp (Host.reduceAdd (mulf (shapeCast _ a3 shapeCasts_S1x32_S32) (shapeCast _ a4 shapeCasts_S1x32_S32)) (constant S_ .f32 0x00000000#32) reducesTo_S32_S_d0 h_S_)) (Host.exp (Host.reduceAdd (mulf (shapeCast _ a5 shapeCasts_S1x32_S32) (shapeCast _ a6 shapeCasts_S1x32_S32)) (constant S_ .f32 0x00000000#32) reducesTo_S32_S_d0 h_S_))) (constant S_ .f32 0x3E4CCCCD#32)

/-- The difference of the two maps, applied to the values. -/
def RO (v : FVec Ideal S32x2048x8x64 .f32) (p : FVec Ideal S32x8x2x2048x2048 .f32) (l : FVec Ideal S_ .f32) : FVec Ideal S32x2048x8x64 .f32 :=
  transpose S32x2048x8x64 [0, 3, 1, 2] (Host.dotGeneral dot_S32x2048x8x64_S32x8x2048x2048_S32x8x64x2048_1_3_3_2_02_01 none v (subf (shapeCast _ (extractStridedSlice S32x8x1x2048x2048 ![0, 0, 0, 0, 0] p slices_S32x8x2x2048x2048_S32x8x1x2048x2048_0_0_0_0_0) shapeCasts_S32x8x1x2048x2048_S32x8x2048x2048) (mulf (broadcastInDim S32x8x2048x2048 ![] bcast_S_S32x8x2048x2048 l) (shapeCast _ (extractStridedSlice S32x8x1x2048x2048 ![0, 0, 1, 0, 0] p slices_S32x8x2x2048x2048_S32x8x1x2048x2048_0_0_1_0_0) shapeCasts_S32x8x1x2048x2048_S32x8x2048x2048)))) transposes_S32x8x64x2048_S32x2048x8x64_0_3_1_2

/-- The norm, the gain and the output's layout. -/
def RN (o : FVec Ideal S32x2048x8x64 .f32) (a7 : FVec Ideal S1x64 .f32) : FVec Ideal S32x4x2048x128 .bf16 :=
  truncf .bf16 (transpose S32x4x2048x128 [0, 2, 1, 3] (shapeCast _ (mulf (mulf (mulf o (broadcastInDim S32x2048x8x64 ![0, 1, 2, 3] bcast_S32x2048x8x1_S32x2048x8x64_0_1_2_3 (Host.rsqrt (addf (Host.divf (broadcastInDim S32x2048x8x1 ![0, 1, 2] bcast_S32x2048x8_S32x2048x8x1_0_1_2 (Host.reduceAdd (mulf o o) (constant S_ .f32 0x00000000#32) reducesTo_S32x2048x8x64_S32x2048x8_d3 h_S_)) (broadcastInDim S32x2048x8x1 ![] bcast_S_S32x2048x8x1 (constant S_ .f32 0x42800000#32))) (broadcastInDim S32x2048x8x1 ![] bcast_S_S32x2048x8x1 (constant S_ .f32 0x358637BD#32)))))) (broadcastInDim S32x2048x8x64 ![0, 1, 2, 3] bcast_S1x1x1x64_S32x2048x8x64_0_1_2_3 (broadcastInDim S1x1x1x64 ![3] bcast_S64_S1x1x1x64_3 (shapeCast _ a7 shapeCasts_S1x64_S64)))) (broadcastInDim S32x2048x8x64 ![] bcast_S_S32x2048x8x64 (constant S_ .f32 0x3F4CCCCD#32))) shapeCasts_S32x2048x8x64_S32x2048x4x128) transposes_S32x2048x4x128_S32x4x2048x128_0_2_1_3) bitsLt_bf16_f32

/-- The reference's result. -/
def REF (a0 : FVec Ideal S32x16x512x128 .bf16) (a1 : FVec Ideal S32x4x2048x128 .bf16) (a2 : FVec Ideal S32x16x512x128 .bf16)
    (a3 a4 a5 a6 : FVec Ideal S1x32 .f32) (a7 : FVec Ideal S1x64 .f32) : FVec Ideal S32x4x2048x128 .bf16 :=
  RN (RO (RV a2) (RP (RE (RS (RQ a0) (RK a1)) (RM (RS (RQ a0) (RK a1))))) (RL a3 a4 a5 a6)) a7

theorem res_eq (m : (ℓ : Loc nD τ sig) → Buf (Elt Ideal) ℓ) (c : Dev nD) :
    res_main_v75 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  rfl

theorem RC_word : ∀ κ : Fin 2048, RC (ix1 κ) = BitVec.ofNat 32 (κ.val / 64) := by
  intro κ
  pointwise [RC]
  revert κ
  decide +kernel

theorem le_word : ∀ a b : Fin 32, IntOp.cmpi CmpIPredicate.sle (BitVec.ofNat 32 a.val) (BitVec.ofNat 32 b.val) = if a.val ≤ b.val then 1#1 else 0#1 := by
  decide +kernel

theorem bot_word : Ideal.ofBits .f32 0xFF800000#32 = ⊥ := by
  simp [Ideal.ofBits, Ideal.ieee]

theorem two_word : Ideal.ofBits .f32 0x40000000#32 = ((2 : ℝ) : EReal) := by
  simp [Ideal.ofBits, Ideal.ieee, -EReal.coe_mul]
  norm_num

theorem fold_sup {ι : Type} [Fintype ι] (f : ι → EReal) : Finset.fold max ⊥ f Finset.univ = Finset.univ.sup f := rfl

theorem RM_at (x : FVec Ideal S32x8x2x2048x2048 .f32) (b : Fin 32) (h : Fin 8) (e : Fin 2) (s : Fin 2048) :
    RM x (ix4 b h e s) = Finset.univ.sup fun κ => x (ix5 b h e s κ) := by
  simp only [RM, pointwise]
  rw [bot_word, fold_sup]

theorem log_word : Ideal.log (Ideal.ofBits .f32 0x40000000#32) = ((Real.log 2 : ℝ) : EReal) := by
  rw [two_word]
  show (if _ then _ else _) = _
  norm_num

theorem RS_at (q k : FVec Ideal S32x2048x8x2x32 .f32) (b : Fin 32) (h : Fin 8) (e : Fin 2) (s κ : Fin 2048) :
    RS q k (ix5 b h e s κ) = if κ.val / 64 ≤ s.val / 64 then (∑ d : Fin 32, q (ix5 b s h e d) * k (ix5 b κ h e d)) * ((Real.log 2 : ℝ) : EReal) else ⊥ := by
  have hb : (constant S_ .f32 0xFF800000#32 : FVec Ideal S_ .f32) ix0 = ⊥ := by
    simp only [pointwise]
    exact bot_word
  pointwise [RS]
  rw [RC_word, RC_word, le_word ⟨κ / 64, by omega⟩ ⟨s / 64, by omega⟩, log_word, id, hb]
  by_cases hle : κ.val / 64 ≤ s.val / 64
  · rw [if_pos hle, if_pos hle]; rfl
  · rw [if_neg hle, if_neg hle]; rfl

theorem RE_at (x : FVec Ideal S32x8x2x2048x2048 .f32) (m : FVec Ideal S32x8x2x2048 .f32) (b : Fin 32) (h : Fin 8) (e : Fin 2) (s κ : Fin 2048) :
    RE x m (ix5 b h e s κ) = Ideal.exp (x (ix5 b h e s κ) - max ⊥ (m (ix4 b h e s))) := by
  rw [← bot_word]
  pointwise! [RE]

theorem RP_at (x : FVec Ideal S32x8x2x2048x2048 .f32) (b : Fin 32) (h : Fin 8) (e : Fin 2) (s κ : Fin 2048) :
    RP x (ix5 b h e s κ) = Ideal.div (x (ix5 b h e s κ)) (∑ κ, x (ix5 b h e s κ)) := by
  pointwise! [RP]

theorem RL_at (a b d e : FVec Ideal S1x32 .f32) : RL a b d e ix0
    = Ideal.exp (∑ k : Fin 32, a (ix2 0 k) * b (ix2 0 k)) - Ideal.exp (∑ k : Fin 32, d (ix2 0 k) * e (ix2 0 k)) + Ideal.ofBits .f32 0x3E4CCCCD#32 := by
  pointwise! [RL]

theorem RO_at (v : FVec Ideal S32x2048x8x64 .f32) (p : FVec Ideal S32x8x2x2048x2048 .f32) (l : FVec Ideal S_ .f32) (b : Fin 32) (s : Fin 2048) (h : Fin 8) (d : Fin 64) :
    RO v p l (ix4 b s h d) = ∑ κ : Fin 2048, v (ix4 b κ h d) * (p (ix5 b h 0 s κ) - l ix0 * p (ix5 b h 1 s κ)) := by
  pointwise! [RO]

theorem RN_at (o : FVec Ideal S32x2048x8x64 .f32) (a7 : FVec Ideal S1x64 .f32) (b : Fin 32) (g : Fin 4) (s : Fin 2048) (f : Fin 128) :
    RN o a7 (ix4 b g s f) = o (ix4 b s ⟨2 * g + f / 64, by omega⟩ ⟨f % 64, by omega⟩)
      * Ideal.rsqrt (Ideal.div (∑ e : Fin 64, o (ix4 b s ⟨2 * g + f / 64, by omega⟩ e) * o (ix4 b s ⟨2 * g + f / 64, by omega⟩ e)) (Ideal.ofBits .f32 0x42800000#32) + Ideal.ofBits .f32 0x358637BD#32)
      * a7 (ix2 0 ⟨f % 64, by omega⟩) * Ideal.ofBits .f32 0x3F4CCCCD#32 := by
  pointwise! [RN]

end Cert.DiffRefIdeal.Value
end
-- ==== Proof.DiffEq.lean ====
/- Hand-written, untrusted: the reference's softmax over whole rows is the kernel's over blocks of keys. -/
module

public import proofs.«01_k».proof.Proof.DiffRefRow
public import proofs.«01_k».proof.Proof.DiffFin

@[expose] public section

set_option maxRecDepth 16384

noncomputable section

open Idealize.ShloMosaic Idealize.ShloMosaic.TcCoe Idealize.SL.Sem
open scoped BigOperators

namespace Cert.DiffEq
open Cert.DiffSoft Cert.DiffStep
open Cert.DiffRefIdeal.Value (RQ RK RV RS RM RE RP RL RO RN REF)

/-- A score in base two and the same score in base e, both masked or both real. -/
def Same (t x : EReal) : Prop := (t = ⊥ ∧ x = ⊥) ∨ ∃ a : ℝ, t = a ∧ x = ((a * Real.log 2 : ℝ) : EReal)

theorem Same.ne_top {t x : EReal} (h : Same t x) : x ≠ ⊤ := by
  rcases h with ⟨-, rfl⟩ | ⟨a, -, rfl⟩
  · exact bot_ne_top
  · exact EReal.coe_ne_top _

theorem exp_shift {t x : EReal} (h : Same t x) (r : ℝ) : Ideal.exp (x - (r : EReal)) = ((Real.exp (-r) * wt t : ℝ) : EReal) := by
  rcases h with ⟨rfl, rfl⟩ | ⟨a, rfl, rfl⟩
  · rw [wt_bot, mul_zero, EReal.bot_sub]; rfl
  · rw [wt_coe, ← EReal.coe_sub]
    show ((Real.exp _ : ℝ) : EReal) = _
    congr 1
    rw [Real.rpow_def_of_pos (by norm_num), ← Real.exp_add]
    congr 1; ring

/-- A softmax in base e is the quotient of the weights in base two. -/
theorem soft {K : Type} [Fintype K] (t x : K → EReal) (h : ∀ k, Same (t k) (x k)) (k0 : K) (a : ℝ) (h0 : t k0 = a) (k : K) :
    Ideal.div (Ideal.exp (x k - max ⊥ (Finset.univ.sup x))) (∑ k, Ideal.exp (x k - max ⊥ (Finset.univ.sup x)))
      = ((wt (t k) / ∑ k, wt (t k) : ℝ) : EReal) := by
  have hx0 : ∃ b : ℝ, x k0 = b := by
    rcases h k0 with ⟨e, -⟩ | ⟨b, -, e⟩
    · rw [h0] at e; exact absurd e (EReal.coe_ne_bot a)
    · exact ⟨_, e⟩
  obtain ⟨b, hb⟩ := hx0
  obtain ⟨M, hM⟩ := sup_real x (fun k => (h k).ne_top) k0 b hb
  rw [hM, max_bot_left]
  simp only [fun k => exp_shift (h k) M]
  have hn : ∀ k, 0 ≤ wt (t k) := by
    intro k
    refine wt_nonneg _ ?_
    rcases h k with ⟨e, -⟩ | ⟨c, e, -⟩ <;> rw [e]
    · exact bot_ne_top
    · exact EReal.coe_ne_top c
  have hp : 0 < ∑ k, wt (t k) :=
    Finset.sum_pos' (fun k _ => hn k) ⟨k0, Finset.mem_univ _, by rw [h0]; exact wt_pos a⟩
  have he : 0 < Real.exp (-M) := Real.exp_pos _
  rw [← coe_sum, ← Finset.mul_sum, Ideal.div_coe (mul_pos he hp).ne', ← EReal.coe_mul]
  congr 1
  field_simp

/-- The two maps' difference over the values. -/
theorem diff_sum {K : Type} [Fintype K] (v : K → EReal) (V w0 w1 : K → ℝ) (l D0 D1 : ℝ) (hv : ∀ k, v k = V k) :
    ∑ k, v k * (((w0 k / D0 : ℝ) : EReal) - (l : EReal) * ((w1 k / D1 : ℝ) : EReal))
      = (((∑ k, V k * w0 k) / D0 - l * ((∑ k, V k * w1 k) / D1) : ℝ) : EReal) := by
  have : ∀ k, v k * (((w0 k / D0 : ℝ) : EReal) - (l : EReal) * ((w1 k / D1 : ℝ) : EReal)) = ((V k * w0 k / D0 - l * (V k * w1 k / D1) : ℝ) : EReal) := by
    intro k
    rw [hv, ← EReal.coe_mul, ← EReal.coe_sub, ← EReal.coe_mul]
    congr 1; ring
  simp only [this]
  rw [← coe_sum, Finset.sum_sub_distrib, ← Finset.mul_sum, Finset.sum_div, Finset.sum_div]

variable {x0 : FVec Ideal Cert.DiffIdeal.S1x16x128x128 .bf16} {x1 : FVec Ideal Cert.DiffIdeal.S1x1x2048x128 .bf16} {x2 : FVec Ideal Cert.DiffIdeal.S1x16x128x128 .bf16}
  {a0 : FVec Ideal Cert.DiffRefIdeal.S32x16x512x128 .bf16} {a1 : FVec Ideal Cert.DiffRefIdeal.S32x4x2048x128 .bf16} {a2 : FVec Ideal Cert.DiffRefIdeal.S32x16x512x128 .bf16}
  {b : Fin 32} {g : Fin 4}

/-- A sub-head's score over its own 32 features is the score over the pair's 128 with the others' queries cleared. -/
theorem score (hx0 : ∀ i f r, x0 (ix4 0 i f r) = a0 (ix4 b i ⟨128 * g + f, by omega⟩ r)) (hx1 : ∀ κ f, x1 (ix4 0 0 κ f) = a1 (ix4 b g κ f))
    (i : Fin 8) (q : Fin 256) (hh e : Fin 2) (j : Fin 8) (κ : Fin 256) :
    ∑ d : Fin 32, RQ a0 (ix5 b ⟨256 * i + q, by omega⟩ ⟨2 * g + hh, by omega⟩ e d) * RK a1 (ix5 b ⟨256 * j + κ, by omega⟩ ⟨2 * g + hh, by omega⟩ e d)
      = raw x0 x1 i ⟨2 * hh + e, by omega⟩ j κ q := by
  unfold raw
  rw [Fin.sum_univ_tiles 2 16 rfl, Fin.sum_univ_tiles 2 64 rfl]
  refine Finset.sum_congr rfl fun a _ => ?_
  refine Eq.trans ?_ ((Fin.sum_univ_tiles 4 16 rfl _).trans (Finset.sum_eq_single (⟨2 * hh + e, by omega⟩ : Fin 4) ?_ ?_)).symm
  · refine Finset.sum_congr rfl fun r _ => ?_
    have hf : (a.val * 64 + ((2 * hh.val + e.val) * 16 + r.val)) % 64 / 16 = 2 * hh.val + e.val := by omega
    rw [Cert.DiffRefIdeal.Value.RQ_at, Cert.DiffRefIdeal.Value.RK_at]
    unfold wq kf qf
    rw [if_pos hf, hx0, hx1, mul_comm]
    congr 2 <;> congr 1 <;> (apply Fin.ext; simp only []; omega)
  · intro c _ hc
    refine Finset.sum_eq_zero fun r _ => ?_
    have hf : ¬ (a.val * 64 + (c.val * 16 + r.val)) % 64 / 16 = 2 * hh.val + e.val := by
      intro h
      refine hc (Fin.ext ?_)
      show c.val = 2 * hh.val + e.val
      omega
    unfold wq
    rw [if_neg hf, mul_zero]
  · intro h; exact absurd (Finset.mem_univ _) h

/-- Within a query block's row: the block-wise mask is the chunk mask over the whole row. -/
theorem weight (i : Fin 8) (c : Fin 4) (q : Fin 256) (j : Fin 8) (κ : Fin 256) :
    wt (if (256 * j.val + κ.val) / 64 ≤ (256 * i.val + q.val) / 64 then raw x0 x1 i c j κ q else ⊥) = if j ≤ i then wt (sg x0 x1 i c j κ q) else 0 := by
  rcases lt_trichotomy j i with h | h | h
  · have h' : j.val < i.val := h
    rw [if_pos (by omega), if_pos h.le, sg, if_neg h.ne, add_zero]
  · subst h
    rw [if_pos le_rfl, sg, if_pos rfl]
    by_cases hm : κ.val / 64 ≤ q.val / 64
    · rw [if_pos (by omega), if_pos hm, add_zero]
    · rw [if_neg (by omega), if_neg hm, EReal.add_bot]
  · have h' : i.val < j.val := h
    rw [if_neg (by omega), if_neg (not_le.2 h), wt_bot]

/-- The masked score of a row, in base two. -/
def tt (x0 : FVec Ideal Cert.DiffIdeal.S1x16x128x128 .bf16) (x1 : FVec Ideal Cert.DiffIdeal.S1x1x2048x128 .bf16) (i : Fin 8) (c : Fin 4) (q : Fin 256) (κ : Fin 2048) : EReal :=
  if κ.val / 64 ≤ (256 * i.val + q.val) / 64 then raw x0 x1 i c ⟨κ / 256, by omega⟩ ⟨κ % 256, by omega⟩ q else ⊥

theorem tt_tile (i : Fin 8) (c : Fin 4) (q : Fin 256) (j : Fin 8) (κ : Fin 256) (hk : j.val * 256 + κ.val < 2048) :
    wt (tt x0 x1 i c q ⟨j.val * 256 + κ.val, hk⟩) = if j ≤ i then wt (sg x0 x1 i c j κ q) else 0 := by
  rw [← weight]
  unfold tt
  have e1 : (⟨(j.val * 256 + κ.val) / 256, by omega⟩ : Fin 8) = j := Fin.ext (by simp only []; omega)
  have e2 : (⟨(j.val * 256 + κ.val) % 256, by omega⟩ : Fin 256) = κ := Fin.ext (by simp only []; omega)
  simp only [e1, e2]
  rw [mul_comm j.val 256]

theorem den_row (i : Fin 8) (c : Fin 4) (q : Fin 256) : ∑ κ, wt (tt x0 x1 i c q κ) = den x0 x1 i c (Finset.univ.filter (· ≤ i)) q := by
  rw [Fin.sum_univ_tiles 8 256 rfl, den, Finset.sum_filter]
  refine Finset.sum_congr rfl fun j _ => ?_
  simp only [tt_tile]
  split
  · rfl
  · exact Finset.sum_const_zero

theorem num_row (i : Fin 8) (c : Fin 4) (q : Fin 256) (V : Fin 2048 → ℝ) (d : Fin 64)
    (hV : ∀ (j : Fin 8) (κ : Fin 256), V ⟨j.val * 256 + κ.val, by omega⟩ = (vf x2 j (hd c) d κ).toReal) :
    ∑ κ, V κ * wt (tt x0 x1 i c q κ) = num x0 x1 x2 i c (Finset.univ.filter (· ≤ i)) d q := by
  rw [Fin.sum_univ_tiles 8 256 rfl, num, Finset.sum_filter]
  refine Finset.sum_congr rfl fun j _ => ?_
  simp only [tt_tile, hV]
  split
  · rfl
  · simp

/-- The reference's difference of maps over the values, at a row, is the kernel's. -/
theorem o_row (h0 : Fin' x0) (h1 : Fin' x1) (h2 : Fin' x2)
    (hx0 : ∀ i f r, x0 (ix4 0 i f r) = a0 (ix4 b i ⟨128 * g + f, by omega⟩ r)) (hx1 : ∀ κ f, x1 (ix4 0 0 κ f) = a1 (ix4 b g κ f))
    (hx2 : ∀ i f r, x2 (ix4 0 i f r) = a2 (ix4 b i ⟨128 * g + f, by omega⟩ r))
    (L : FVec Ideal Cert.DiffRefIdeal.S_ .f32) (l : ℝ) (hl : L ix0 = (l : EReal))
    (i : Fin 8) (q : Fin 256) (hh : Fin 2) (d : Fin 64) :
    RO (RV a2) (RP (RE (RS (RQ a0) (RK a1)) (RM (RS (RQ a0) (RK a1))))) L (ix4 b ⟨256 * i + q, by omega⟩ ⟨2 * g + hh, by omega⟩ d)
      = ((avg x0 x1 x2 i ⟨2 * hh, by omega⟩ d q - l * avg x0 x1 x2 i ⟨2 * hh + 1, by omega⟩ d q : ℝ) : EReal) := by
  have hS : ∀ (e : Fin 2) (κ : Fin 2048), Same (tt x0 x1 i ⟨2 * hh + e, by omega⟩ q κ) (RS (RQ a0) (RK a1) (ix5 b ⟨2 * g + hh, by omega⟩ e ⟨256 * i + q, by omega⟩ κ)) := by
    intro e κ
    have hs := score hx0 hx1 i q hh e ⟨κ / 256, by omega⟩ ⟨κ % 256, by omega⟩
    have ek : (⟨256 * (κ.val / 256) + κ.val % 256, by omega⟩ : Fin 2048) = κ := Fin.ext (by simp only []; omega)
    simp only [ek] at hs
    obtain ⟨r, hr⟩ := raw_real h0 h1 i ⟨2 * hh + e, by omega⟩ ⟨κ / 256, by omega⟩ ⟨κ % 256, by omega⟩ q
    rw [Cert.DiffRefIdeal.Value.RS_at, hs, hr, tt, hr]
    by_cases hm : κ.val / 64 ≤ (256 * i.val + q.val) / 64
    · rw [if_pos hm, if_pos hm]; exact .inr ⟨r, rfl, (EReal.coe_mul r _).symm⟩
    · rw [if_neg hm, if_neg hm]; exact .inl ⟨rfl, rfl⟩
  have hP : ∀ (e : Fin 2) (κ : Fin 2048), RP (RE (RS (RQ a0) (RK a1)) (RM (RS (RQ a0) (RK a1)))) (ix5 b ⟨2 * g + hh, by omega⟩ e ⟨256 * i + q, by omega⟩ κ)
      = ((wt (tt x0 x1 i ⟨2 * hh + e, by omega⟩ q κ) / den x0 x1 i ⟨2 * hh + e, by omega⟩ (Finset.univ.filter (· ≤ i)) q : ℝ) : EReal) := by
    intro e κ
    obtain ⟨r, hr⟩ := raw_real h0 h1 i ⟨2 * hh + e, by omega⟩ i q q
    have ht : tt x0 x1 i ⟨2 * hh + e, by omega⟩ q ⟨256 * i + q, by omega⟩ = r := by
      unfold tt
      have e1 : (⟨(256 * i.val + q.val) / 256, by omega⟩ : Fin 8) = i := Fin.ext (by simp only []; omega)
      have e2 : (⟨(256 * i.val + q.val) % 256, by omega⟩ : Fin 256) = q := Fin.ext (by simp only []; omega)
      rw [if_pos le_rfl]
      simp only [e1, e2, hr]
    rw [Cert.DiffRefIdeal.Value.RP_at]
    simp only [Cert.DiffRefIdeal.Value.RE_at, Cert.DiffRefIdeal.Value.RM_at]
    rw [soft _ _ (hS e) _ r ht κ, den_row]
  rw [Cert.DiffRefIdeal.Value.RO_at]
  simp only [hP, hl]
  choose X2 e2 using h2
  have hv : ∀ κ : Fin 2048, RV a2 (ix4 b κ ⟨2 * g + hh, by omega⟩ d) = ((X2 (ix4 0 ⟨κ / 128, by omega⟩ ⟨64 * hh + d, by omega⟩ ⟨κ % 128, by omega⟩) : ℝ) : EReal) := by
    intro κ
    rw [← e2, hx2, Cert.DiffRefIdeal.Value.RV_at]
    congr 2
    exact Fin.ext (by simp only []; omega)
  rw [diff_sum _ _ _ _ l _ _ hv]
  congr 1
  have hV : ∀ (e : Fin 2) (j : Fin 8) (κ : Fin 256), X2 (ix4 0 ⟨(j.val * 256 + κ.val) / 128, by omega⟩ ⟨64 * hh + d, by omega⟩ ⟨(j.val * 256 + κ.val) % 128, by omega⟩)
      = (vf x2 j (hd ⟨2 * hh + e, by omega⟩) d κ).toReal := by
    intro e j κ
    unfold vf
    rw [e2, EReal.toReal_coe]
    congr 2 <;> (apply Fin.ext; simp only [hd]; omega)
  have n0 := num_row (x0 := x0) (x1 := x1) (x2 := x2) i ⟨2 * hh, by omega⟩ q
    (fun κ => X2 (ix4 0 ⟨κ / 128, by omega⟩ ⟨64 * hh + d, by omega⟩ ⟨κ % 128, by omega⟩)) d (hV 0)
  have n1 := num_row (x0 := x0) (x1 := x1) (x2 := x2) i ⟨2 * hh + 1, by omega⟩ q
    (fun κ => X2 (ix4 0 ⟨κ / 128, by omega⟩ ⟨64 * hh + d, by omega⟩ ⟨κ % 128, by omega⟩)) d (hV 1)
  unfold avg
  rw [← n0, ← n1]
  rfl

/-- The reference's result at a point is the kernel's tile. -/
theorem REF_row (h0 : Fin' x0) (h1 : Fin' x1) (h2 : Fin' x2)
    (hx0 : ∀ i f r, x0 (ix4 0 i f r) = a0 (ix4 b i ⟨128 * g + f, by omega⟩ r)) (hx1 : ∀ κ f, x1 (ix4 0 0 κ f) = a1 (ix4 b g κ f))
    (hx2 : ∀ i f r, x2 (ix4 0 i f r) = a2 (ix4 b i ⟨128 * g + f, by omega⟩ r))
    (a3 a4 a5 a6 : FVec Ideal Cert.DiffRefIdeal.S1x32 .f32) (a7 : FVec Ideal Cert.DiffRefIdeal.S1x64 .f32) (l : ℝ)
    (hl : Ideal.exp (∑ k : Fin 32, a3 (ix2 0 k) * a4 (ix2 0 k)) - Ideal.exp (∑ k : Fin 32, a5 (ix2 0 k) * a6 (ix2 0 k)) + Ideal.ofBits .f32 0x3E4CCCCD#32 = (l : EReal))
    (G : Fin 64 → EReal) (hG : ∀ d, G d = a7 (ix2 0 d) * Ideal.ofBits .f32 0x3F4CCCCD#32) (i : Fin 8) (q : Fin 256) (f : Fin 128) :
    REF a0 a1 a2 a3 a4 a5 a6 a7 (ix4 b g ⟨256 * i + q, by omega⟩ f) = outrow x0 x1 x2 l G i q f := by
  unfold REF
  rw [Cert.DiffRefIdeal.Value.RN_at]
  have ho := o_row h0 h1 h2 hx0 hx1 hx2 (Cert.DiffRefIdeal.Value.RL a3 a4 a5 a6) l ((Cert.DiffRefIdeal.Value.RL_at a3 a4 a5 a6).trans hl) i q ⟨f / 64, by omega⟩
  simp only [ho]
  unfold outrow nrm64
  rw [hG, mul_assoc]

end Cert.DiffEq

end
-- ==== Proof.DiffFinal.lean ====
/- Hand-written, untrusted: the array the differential attention leaves is the reference's term. -/
module

public import proofs.«01_k».proof.Proof.DiffWords
public import proofs.«01_k».proof.Proof.DiffEq
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DiffIdeal.Value
open Cert.DiffIdeal Cert.DiffIdeal.Gen Cert.DiffStep

variable (m : (ℓ : Loc nD τ sig) → Buf (Elt Ideal) ℓ)

theorem idx : ∀ t : Fin cfg0.N, win0_0.index t = ![t.val / 4, 0, t.val % 4, 0]
    ∧ win0_1.index t = ![t.val / 4, t.val % 4, 0, 0]
    ∧ win0_2.index t = ![t.val / 4, 0, t.val % 4, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val / 4, t.val % 4, 0, 0] :=
  (by decide +kernel : ∀ t : Fin grid0.N, _)

theorem blk0 (c : Dev nD) (t : Fin cfg0.N) (i : Fin 16) (f r : Fin 128) (ht : t.val < 128) :
    iblk m c 0 t (ix4 0 i f r) = m ((c : Thread nD τ).loc main_arg0) (ix4 ⟨t.val / 4, by omega⟩ i ⟨128 * (t.val % 4) + f, by omega⟩ r) := by
  blk_point [iblk, V, idx t]
theorem blk1 (c : Dev nD) (t : Fin cfg0.N) (k : Fin 2048) (f : Fin 128) (ht : t.val < 128) :
    iblk m c 1 t (ix4 0 0 k f) = m ((c : Thread nD τ).loc main_arg1) (ix4 ⟨t.val / 4, by omega⟩ ⟨t.val % 4, by omega⟩ k f) := by
  blk_point [iblk, V, idx t]
theorem blk2 (c : Dev nD) (t : Fin cfg0.N) (i : Fin 16) (f r : Fin 128) (ht : t.val < 128) :
    iblk m c 2 t (ix4 0 i f r) = m ((c : Thread nD τ).loc main_arg2) (ix4 ⟨t.val / 4, by omega⟩ i ⟨128 * (t.val % 4) + f, by omega⟩ r) := by
  blk_point [iblk, V, idx t]
theorem blk3 (c : Dev nD) (t : Fin cfg0.N) (k : Fin 32) :
    iblk m c 3 t (ix2 0 k) = m ((c : Thread nD τ).loc main_arg3) (ix2 0 k) := by
  blk_point [iblk, V, idx t]
theorem blk4 (c : Dev nD) (t : Fin cfg0.N) (k : Fin 32) :
    iblk m c 4 t (ix2 0 k) = m ((c : Thread nD τ).loc main_arg4) (ix2 0 k) := by
  blk_point [iblk, V, idx t]
theorem blk5 (c : Dev nD) (t : Fin cfg0.N) (k : Fin 32) :
    iblk m c 5 t (ix2 0 k) = m ((c : Thread nD τ).loc main_arg5) (ix2 0 k) := by
  blk_point [iblk, V, idx t]
theorem blk6 (c : Dev nD) (t : Fin cfg0.N) (k : Fin 32) :
    iblk m c 6 t (ix2 0 k) = m ((c : Thread nD τ).loc main_arg6) (ix2 0 k) := by
  blk_point [iblk, V, idx t]
theorem blk7 (c : Dev nD) (t : Fin cfg0.N) (k : Fin 64) :
    iblk m c 7 t (ix2 k 0) = m ((c : Thread nD τ).loc main_arg7) (ix2 0 k) := by
  blk_point [iblk, V, idx t]
/-- The weight of the second map is real where its inputs are. -/
theorem lam_real (a b d e : FVec Ideal S1x32 .f32) (pa : Fin' a) (pb : Fin' b) (pd : Fin' d) (pe : Fin' e) :
    ∃ l : ℝ, Ideal.exp (∑ k : Fin 32, a (ix2 0 k) * b (ix2 0 k)) - Ideal.exp (∑ k : Fin 32, d (ix2 0 k) * e (ix2 0 k)) + Ideal.ofBits .f32 0x3E4CCCCD#32 = (l : EReal) := by
  obtain ⟨w, ew⟩ : ∃ w : ℝ, Ideal.ofBits .f32 0x3E4CCCCD#32 = (w : EReal) := by
    exact ⟨_, rfl⟩
  choose A ea using pa
  choose B eb using pb
  choose D ed using pd
  choose E ee using pe
  simp only [ea, eb, ed, ee, ew, ← EReal.coe_mul, ← Cert.DiffSoft.coe_sum, Ideal.exp_coe, ← EReal.coe_sub, ← EReal.coe_add]
  exact ⟨_, rfl⟩

/-- The reference's term over the kernel's argument arrays. -/
abbrev RES (c : Dev nD) : FVec Ideal S32x4x2048x128 .bf16 :=
  Cert.DiffRefIdeal.Value.REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The arrays that must be real. -/
structure Real' (c : Dev nD) : Prop where
  q : Fin' (s := S32x16x512x128) (φ := .bf16) (m ((c : Thread nD τ).loc main_arg0))
  k : Fin' (s := S32x4x2048x128) (φ := .bf16) (m ((c : Thread nD τ).loc main_arg1))
  v : Fin' (s := S32x16x512x128) (φ := .bf16) (m ((c : Thread nD τ).loc main_arg2))
  a : Fin' (s := S1x32) (φ := .f32) (m ((c : Thread nD τ).loc main_arg3))
  b : Fin' (s := S1x32) (φ := .f32) (m ((c : Thread nD τ).loc main_arg4))
  d : Fin' (s := S1x32) (φ := .f32) (m ((c : Thread nD τ).loc main_arg5))
  e : Fin' (s := S1x32) (φ := .f32) (m ((c : Thread nD τ).loc main_arg6))

theorem fin0 (c : Dev nD) (P : Real' m c) (t : Fin cfg0.N) (tl : t.val < 128) : Fin' (s := S1x16x128x128) (φ := .bf16) (iblk m c 0 t) := by
  intro y
  idx_vars y
  obtain rfl : y0 = 0 := Subsingleton.elim _ _
  obtain ⟨r, er⟩ := P.q (ix4 ⟨t.val / 4, by omega⟩ y1 ⟨128 * (t.val % 4) + y2, by omega⟩ y3)
  exact ⟨r, (blk0 m c t y1 y2 y3 tl).trans er⟩

theorem fin1 (c : Dev nD) (P : Real' m c) (t : Fin cfg0.N) (tl : t.val < 128) : Fin' (s := S1x1x2048x128) (φ := .bf16) (iblk m c 1 t) := by
  intro y
  idx_vars y
  obtain rfl : y0 = 0 := Subsingleton.elim _ _
  obtain rfl : y1 = 0 := Subsingleton.elim _ _
  obtain ⟨r, er⟩ := P.k (ix4 ⟨t.val / 4, by omega⟩ ⟨t.val % 4, by omega⟩ y2 y3)
  exact ⟨r, (blk1 m c t y2 y3 tl).trans er⟩

theorem fin2 (c : Dev nD) (P : Real' m c) (t : Fin cfg0.N) (tl : t.val < 128) : Fin' (s := S1x16x128x128) (φ := .bf16) (iblk m c 2 t) := by
  intro y
  idx_vars y
  obtain rfl : y0 = 0 := Subsingleton.elim _ _
  obtain ⟨r, er⟩ := P.v (ix4 ⟨t.val / 4, by omega⟩ y1 ⟨128 * (t.val % 4) + y2, by omega⟩ y3)
  exact ⟨r, (blk2 m c t y1 y2 y3 tl).trans er⟩

set_option maxHeartbeats 4000000 in
theorem point (c : Dev nD) (P : Real' m c) (t : Fin cfg0.N) (y) : outsAt0 (F := Ideal) m c t y = RES m c (((cfg0.win 8).blk t).view.emb y) := by
  have tl : t.val < 128 := lt_of_lt_of_eq t.isLt N_0
  obtain ⟨l, el⟩ := lam_real _ _ _ _ P.a P.b P.d P.e
  have el' := lam_at c (ms0_3 t) (hs0_3 t) (ms0_4 t) (hs0_4 t) (ms0_5 t) (hs0_5 t) (ms0_6 t) (hs0_6 t) (iblk m c 3 t) (iblk m c 4 t) (iblk m c 5 t) (iblk m c 6 t)
  simp only [blk3, blk4, blk5, blk6] at el'
  have W := pieces c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) scM0_0 scM0_1 (iblk m c 0 t) (iblk m c 1 t) (iblk m c 2 t) (iblk m c 3 t) (iblk m c 4 t) (iblk m c 5 t) (iblk m c 6 t) (iblk m c 7 t)
    (fin0 m c P t tl) (fin1 m c P t tl) (fin2 m c P t tl) l (el'.trans el)
  have R := fun k q f => Cert.DiffEq.REF_row (b := ⟨t.val / 4, by omega⟩) (g := ⟨t.val % 4, by omega⟩) (fin0 m c P t tl) (fin1 m c P t tl) (fin2 m c P t tl)
    (fun i f r => blk0 m c t i f r tl) (fun κ f => blk1 m c t κ f tl) (fun i f r => blk2 m c t i f r tl)
    (m ((c : Thread nD τ).loc main_arg3)) (m ((c : Thread nD τ).loc main_arg4)) (m ((c : Thread nD τ).loc main_arg5)) (m ((c : Thread nD τ).loc main_arg6))
    (m ((c : Thread nD τ).loc main_arg7)) l el (fun d => kernelRun0_A.sl.v22 (F := Ideal) c (ms0_7 t) (hs0_7 t) (iblk m c 7 t) (ix2 d 0))
    (fun d => (gain_at c (ms0_7 t) (hs0_7 t) (iblk m c 7 t) d).trans (congrArg (· * _) (blk7 m c t d))) k q f
  unfold outsAt0 out0_A_8 kernelRun0_A
  dsimp only []
  rw [View.read_writes_junk_eq_canon]
  canon_tiles x h
  case piece0 =>
    idx_vars x
    obtain rfl : x0 = 0 := Subsingleton.elim _ _
    obtain rfl : x1 = 0 := Subsingleton.elim _ _
    have e : ((cfg0.win 8).blk t).view.emb y = ix4 ⟨t.val / 4, by omega⟩ ⟨t.val % 4, by omega⟩ ⟨256 * (7 : Fin 8).val + x2, by omega⟩ x3 := by blk_ext [idx t]
    exact (W x2 x3).2.2.2.2.2.2.2.trans (Eq.trans (R 7 x2 x3).symm (congrArg (RES m c) e.symm))
  case piece1 =>
    idx_vars x
    obtain rfl : x0 = 0 := Subsingleton.elim _ _
    obtain rfl : x1 = 0 := Subsingleton.elim _ _
    have e : ((cfg0.win 8).blk t).view.emb y = ix4 ⟨t.val / 4, by omega⟩ ⟨t.val % 4, by omega⟩ ⟨256 * (6 : Fin 8).val + x2, by omega⟩ x3 := by blk_ext [idx t]
    exact (W x2 x3).2.2.2.2.2.2.1.trans (Eq.trans (R 6 x2 x3).symm (congrArg (RES m c) e.symm))
  case piece2 =>
    idx_vars x
    obtain rfl : x0 = 0 := Subsingleton.elim _ _
    obtain rfl : x1 = 0 := Subsingleton.elim _ _
    have e : ((cfg0.win 8).blk t).view.emb y = ix4 ⟨t.val / 4, by omega⟩ ⟨t.val % 4, by omega⟩ ⟨256 * (5 : Fin 8).val + x2, by omega⟩ x3 := by blk_ext [idx t]
    exact (W x2 x3).2.2.2.2.2.1.trans (Eq.trans (R 5 x2 x3).symm (congrArg (RES m c) e.symm))
  case piece3 =>
    idx_vars x
    obtain rfl : x0 = 0 := Subsingleton.elim _ _
    obtain rfl : x1 = 0 := Subsingleton.elim _ _
    have e : ((cfg0.win 8).blk t).view.emb y = ix4 ⟨t.val / 4, by omega⟩ ⟨t.val % 4, by omega⟩ ⟨256 * (4 : Fin 8).val + x2, by omega⟩ x3 := by blk_ext [idx t]
    exact (W x2 x3).2.2.2.2.1.trans (Eq.trans (R 4 x2 x3).symm (congrArg (RES m c) e.symm))
  case piece4 =>
    idx_vars x
    obtain rfl : x0 = 0 := Subsingleton.elim _ _
    obtain rfl : x1 = 0 := Subsingleton.elim _ _
    have e : ((cfg0.win 8).blk t).view.emb y = ix4 ⟨t.val / 4, by omega⟩ ⟨t.val % 4, by omega⟩ ⟨256 * (3 : Fin 8).val + x2, by omega⟩ x3 := by blk_ext [idx t]
    exact (W x2 x3).2.2.2.1.trans (Eq.trans (R 3 x2 x3).symm (congrArg (RES m c) e.symm))
  case piece5 =>
    idx_vars x
    obtain rfl : x0 = 0 := Subsingleton.elim _ _
    obtain rfl : x1 = 0 := Subsingleton.elim _ _
    have e : ((cfg0.win 8).blk t).view.emb y = ix4 ⟨t.val / 4, by omega⟩ ⟨t.val % 4, by omega⟩ ⟨256 * (2 : Fin 8).val + x2, by omega⟩ x3 := by blk_ext [idx t]
    exact (W x2 x3).2.2.1.trans (Eq.trans (R 2 x2 x3).symm (congrArg (RES m c) e.symm))
  case piece6 =>
    idx_vars x
    obtain rfl : x0 = 0 := Subsingleton.elim _ _
    obtain rfl : x1 = 0 := Subsingleton.elim _ _
    have e : ((cfg0.win 8).blk t).view.emb y = ix4 ⟨t.val / 4, by omega⟩ ⟨t.val % 4, by omega⟩ ⟨256 * (1 : Fin 8).val + x2, by omega⟩ x3 := by blk_ext [idx t]
    exact (W x2 x3).2.1.trans (Eq.trans (R 1 x2 x3).symm (congrArg (RES m c) e.symm))
  case piece7 =>
    idx_vars x
    obtain rfl : x0 = 0 := Subsingleton.elim _ _
    obtain rfl : x1 = 0 := Subsingleton.elim _ _
    have e : ((cfg0.win 8).blk t).view.emb y = ix4 ⟨t.val / 4, by omega⟩ ⟨t.val % 4, by omega⟩ ⟨256 * (0 : Fin 8).val + x2, by omega⟩ x3 := by blk_ext [idx t]
    exact (W x2 x3).1.trans (Eq.trans (R 0 x2 x3).symm (congrArg (RES m c) e.symm))

theorem final (c : Dev nD) (P : Real' m c) : (dats m 0 c).arrAt 8 (cfgs 0).N = RES m c := by
  refine (dats m 0 c).arrAt_eq_of_covers 8 _ (by decide +kernel) fun t hf y => ?_
  blk_simp; rw [after0_8]
  exact point m c P t y

end Cert.DiffIdeal.Value
end
-- ==== Proof.FiniteInputs.lean ====
/- Hand-written, untrusted: the precondition says that the entries are real numbers. -/
module

public import proofs.«01_k».proof.Proof.Gen.Pre_finite
public import Idealize.ShloMosaic.Lib.Pointwise
public import Idealize.ShloMosaic.Lib.Affine

@[expose] public section

set_option maxRecDepth 16384

noncomputable section

open Idealize.ShloMosaic Idealize.ShloMosaic.TcCoe Idealize.SL.Sem
open Idealize.ShloMosaic.Pipeline (Dat)
open scoped BigOperators

namespace Cert.FiniteInputs

theorem all_of_fold {ι : Type} (S : Finset ι) (f : ι → BitVec 1) (b : BitVec 1) (h : S.fold IntOp.andi b f = 1#1) : ∀ i ∈ S, f i = 1#1 := by
  classical
  induction S using Finset.induction_on with
  | empty => intro i hi; exact absurd hi (Finset.notMem_empty i)
  | insert a S ha ih =>
    rw [Finset.fold_insert ha] at h
    have h' : ∀ c d : BitVec 1, IntOp.andi c d = 1#1 → c = 1#1 ∧ d = 1#1 := by decide
    obtain ⟨h1, h2⟩ := h' _ _ h
    intro i hi
    rcases Finset.mem_insert.1 hi with rfl | hi
    · exact h1
    · exact ih h2 i hi

/-- Where every entry's test holds, each entry's does. -/
theorem all_of_reduce {s u : Shape} {axes : List (Fin s.rank)} (x : IVec s 1) (init : u.Idx → BitVec 1) (h : s.ReducesTo axes ⟨0, ![]⟩) (hu : 0 < u.numel)
    (e : Host.reduce IntOp.andi x init h hu ix0 = 1#1) (y : s.Idx) : x y = 1#1 := by
  rw [Host.reduce_eq_fold] at e
  exact all_of_fold _ _ _ e y (Finset.mem_filter.2 ⟨Finset.mem_univ _, funext fun a => a.elim0⟩)

theorem inf_word : Ideal.ofBits .f32 0x7F800000#32 = ⊤ := by
  simp [Ideal.ofBits, Ideal.ieee]

/-- An entry whose absolute value is below infinity is real. -/
theorem real_of_abs (a : EReal) (h : Ideal.cmp .olt (max a (-a)) (Ideal.ofBits .f32 0x7F800000#32) = 1#1) : ∃ r : ℝ, a = r := by
  rw [inf_word] at h
  have h' : max a (-a) < ⊤ := by
    by_contra hn
    simp [Ideal.cmp, hn] at h
  induction a using EReal.rec with
  | bot => simp at h'
  | top => simp at h'
  | coe r => exact ⟨r, rfl⟩

/-- The precondition's entries. -/
theorem real_inputs (a0 : FVec Ideal Cert.Pre_finite.S32x16x512x128 .bf16) (a1 : FVec Ideal Cert.Pre_finite.S32x4x2048x128 .bf16)
    (a2 : FVec Ideal Cert.Pre_finite.S32x16x512x128 .bf16) (a3 a4 a5 a6 : FVec Ideal Cert.Pre_finite.S1x32 .f32) (a7 : FVec Ideal Cert.Pre_finite.S1x64 .f32)
    (h : Cert.Pre_finite.fn (F := Ideal) a0 a1 a2 a3 a4 a5 a6 a7 = fun _ => 1#1) :
    (∀ y, ∃ r : ℝ, a0 y = r) ∧ (∀ y, ∃ r : ℝ, a1 y = r) ∧ (∀ y, ∃ r : ℝ, a2 y = r) ∧ (∀ y, ∃ r : ℝ, a3 y = r)
      ∧ (∀ y, ∃ r : ℝ, a4 y = r) ∧ (∀ y, ∃ r : ℝ, a5 y = r) ∧ (∀ y, ∃ r : ℝ, a6 y = r) := by
  have e := congrFun h ix0
  have h' : ∀ c d : BitVec 1, IntOp.andi c d = 1#1 → c = 1#1 ∧ d = 1#1 := by decide
  unfold Cert.Pre_finite.fn Cert.Pre_finite.fn_part1 Cert.Pre_finite.fn_part2 at e
  obtain ⟨e, e6⟩ := h' _ _ e
  obtain ⟨e, e5⟩ := h' _ _ e
  obtain ⟨e, e4⟩ := h' _ _ e
  obtain ⟨e, e3⟩ := h' _ _ e
  obtain ⟨e, e2⟩ := h' _ _ e
  obtain ⟨e0, e1⟩ := h' _ _ e
  exact ⟨fun y => real_of_abs _ (all_of_reduce _ _ _ _ e0 y), fun y => real_of_abs _ (all_of_reduce _ _ _ _ e1 y),
    fun y => real_of_abs _ (all_of_reduce _ _ _ _ e2 y), fun y => real_of_abs _ (all_of_reduce _ _ _ _ e3 y),
    fun y => real_of_abs _ (all_of_reduce _ _ _ _ e4 y), fun y => real_of_abs _ (all_of_reduce _ _ _ _ e5 y),
    fun y => real_of_abs _ (all_of_reduce _ _ _ _ e6 y)⟩

end Cert.FiniteInputs
end
-- ==== Proof.DiffClaims.lean ====
/- Hand-written, untrusted: the claims about the differential attention. -/
module

public import proofs.«01_k».proof.Defs
public import proofs.«01_k».proof.Proof.Gen.Diff
public import proofs.«01_k».proof.Proof.Gen.Diff.Frame
public import proofs.«01_k».proof.Proof.DiffFinal
public import proofs.«01_k».proof.Proof.FiniteInputs
public import Idealize.ShloMosaic.Lib.Claim

@[expose] public section

set_option maxRecDepth 16384

noncomputable section

namespace Cert.DiffClaims

open Idealize.ShloMosaic Idealize.SL.Sem

theorem frame_P : Cert.quiescent_Diff := fun m g _ => Cert.Diff.Gen.frame m g
theorem frame_PI : Cert.quiescent_DiffIdeal := fun m g _ => Cert.DiffIdeal.Gen.frame m g
theorem frame_PI_finite : Cert.quiescent_DiffIdeal_pre_finite := fun m g _ => Cert.DiffIdeal.Gen.frame m g
theorem frame_RI : Cert.quiescent_DiffRefIdeal := by
  intro m g _
  exact (θ_run Cert.DiffRefIdeal.defs _ _).mono (fun r h => ⟨fun c => (h c).2, sem_eq_zero_of_no_sems (by decide) r.2⟩)
    (Cert.DiffRefIdeal.Value.run (F := Ideal) m g)
theorem frame_RI_finite : Cert.quiescent_DiffRefIdeal_pre_finite := fun m g _ => frame_RI m g trivial

theorem preserves : Cert.preserves_Diff_DiffIdeal := IdealRules.named_const.statement Cert.DiffIdeal.κ "mask" .f32 0xF149F2CA#32 ⊥ rfl

theorem real_of_pre (m : (ℓ : Loc Cert.DiffIdeal.nD Cert.DiffIdeal.τ Cert.DiffIdeal.sig) → Buf (Elt Ideal) ℓ) (h : Cert.Pre_DiffIdeal_finite m)
    (c : Dev Cert.DiffIdeal.nD) : Cert.DiffIdeal.Value.Real' m c := by
  obtain ⟨e0, e1, e2, e3, e4, e5, e6⟩ := Cert.FiniteInputs.real_inputs _ _ _ _ _ _ _ _ (h c)
  exact ⟨e0, e1, e2, e3, e4, e5, e6⟩

theorem algebraic : Cert.algebraic_DiffIdeal_DiffRefIdeal_pre_finite := by
  pair_intro
  · run_from Cert.DiffIdeal.Value.run_blocks m g
  · run_from Cert.DiffRefIdeal.Value.run m' g'
    rw [Cert.DiffRefIdeal.Value.res_eq]
    obtain ⟨h0, h1, h2, h3, h4, h5, h6, h7⟩ := hagree c
    rw [h0, h1, h2, h3, h4, h5, h6, h7]
    exact (Cert.DiffIdeal.Value.final m c (real_of_pre m hpre c)).symm

end Cert.DiffClaims

end
-- ==== Proof.ProjRef.lean ====
/- Hand-written, untrusted: the reference of the input projection at an index: sums over the normalised row, and the
   rotation of two of them by the position's angle. -/
module

public import proofs.«01_k».proof.Proof.Gen.ProjRefIdeal.Run
public import Idealize.ShloMosaic.Lib.Pointwise

@[expose] public section

set_option maxRecDepth 16384

noncomputable section

open Idealize.ShloMosaic Idealize.ShloMosaic.TcCoe Idealize.SL.Sem
open scoped BigOperators

namespace Cert.ProjRow

/-- Root mean square normalisation of a row with a gain. -/
def unit (y g : Fin 1024 → EReal) (d : Fin 1024) : EReal :=
  y d * Ideal.rsqrt (Ideal.div (∑ k : Fin 1024, y k * y k) (Ideal.ofBits .f32 0x44800000#32) + Ideal.ofBits .f32 0x358637BD#32) * g d

end Cert.ProjRow

namespace Cert.ProjRefIdeal.Value
open Cert.ProjRefIdeal Cert.ProjRefIdeal.Gen Cert.ProjRow

/-- The normalised input. -/
def RH (a0 : FVec Ideal S32x2048x1024 .f32) (a2 : FVec Ideal S1x1024 .f32) : FVec Ideal S32x2048x1024 .f32 :=
  mulf (mulf a0 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf a0 a0) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ a2 shapeCasts_S1x1024_S1024)))

/-- The projection of the normalised input. -/
def RP (a0 : FVec Ideal S32x2048x1024 .f32) (a1 : FVec Ideal S1x1024x3072 .f32) (a2 : FVec Ideal S1x1024 .f32) : FVec Ideal S32x2048x3072 .f32 :=
  Host.dotGeneral dot_S32x2048x1024_S1024x3072_S32x2048x3072_2_0_01_1_n_n none (RH a0 a2) (shapeCast _ a1 shapeCasts_S1x1024x3072_S1024x3072)

/-- The angle of a position at a frequency. -/
def ANG : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))
def COS : FVec Ideal S2048x16 .f32 := Host.cos ANG
def SIN : FVec Ideal S2048x16 .f32 := Host.sin ANG

/-- A table over positions, spread over sequences and heads. -/
def SPR (T : FVec Ideal S2048x16 .f32) : FVec Ideal S32x2048x16x16 .f32 :=
  broadcastInDim S32x2048x16x16 ![0, 1, 2, 3] bcast_S1x2048x1x16_S32x2048x16x16_0_1_2_3 (broadcastInDim S1x2048x1x16 ![1, 2, 3] bcast_S2048x1x16_S1x2048x1x16_1_2_3 (broadcastInDim S2048x1x16 ![0, 2] bcast_S2048x16_S2048x1x16_0_2 T))

def LOH (A : FVec Ideal S32x2048x512 .f32) : FVec Ideal S32x2048x16x16 .f32 :=
  extractStridedSlice S32x2048x16x16 ![0, 0, 0, 0] (shapeCast S32x2048x16x32 A shapeCasts_S32x2048x512_S32x2048x16x32) slices_S32x2048x16x32_S32x2048x16x16_0_0_0_0
def HIH (A : FVec Ideal S32x2048x512 .f32) : FVec Ideal S32x2048x16x16 .f32 :=
  extractStridedSlice S32x2048x16x16 ![0, 0, 0, 16] (shapeCast S32x2048x16x32 A shapeCasts_S32x2048x512_S32x2048x16x32) slices_S32x2048x16x32_S32x2048x16x16_0_0_0_16

/-- The rotation of every head. -/
def ROT (A : FVec Ideal S32x2048x512 .f32) : FVec Ideal S32x2048x16x32 .f32 :=
  concatenate S32x2048x16x32 3 [⟨S32x2048x16x16, subf (mulf (LOH A) (SPR COS)) (mulf (HIH A) (SPR SIN))⟩, ⟨S32x2048x16x16, addf (mulf (HIH A) (SPR COS)) (mulf (LOH A) (SPR SIN))⟩] concatenates_S32x2048x16x16_S32x2048x16x16_S32x2048x16x32_d3

/-- The order of features the call keeps for two heads. -/
def PRS (X : FVec Ideal S32x2048x16x32 .f32) : FVec Ideal S32x2048x512 .f32 :=
  shapeCast S32x2048x512 (transpose S32x2048x4x2x4x16 [0, 1, 2, 4, 3, 5] (shapeCast S32x2048x4x4x2x16 X shapeCasts_S32x2048x16x32_S32x2048x4x4x2x16) transposes_S32x2048x4x4x2x16_S32x2048x4x2x4x16_0_1_2_4_3_5) shapeCasts_S32x2048x4x2x4x16_S32x2048x512

/-- Written feature by feature, in blocks of 128 positions. -/
def FEAT (A : FVec Ideal S32x2048x512 .f32) : FVec Ideal S32x16x512x128 .bf16 :=
  truncf .bf16 (transpose S32x16x512x128 [0, 1, 3, 2] (shapeCast S32x16x128x512 A shapeCasts_S32x2048x512_S32x16x128x512) transposes_S32x16x128x512_S32x16x512x128_0_1_3_2) bitsLt_bf16_f32

/-- Written position by position, two heads at a time. -/
def POSM (A : FVec Ideal S32x2048x512 .f32) : FVec Ideal S32x4x2048x128 .bf16 :=
  truncf .bf16 (transpose S32x4x2048x128 [0, 2, 1, 3] (shapeCast S32x2048x4x128 A shapeCasts_S32x2048x512_S32x2048x4x128) transposes_S32x2048x4x128_S32x4x2048x128_0_2_1_3) bitsLt_bf16_f32

section
variable (a0 : FVec Ideal S32x2048x1024 .f32) (a1 : FVec Ideal S1x1024x3072 .f32) (a2 : FVec Ideal S1x1024 .f32)

def REF0 : FVec Ideal S32x16x512x128 .bf16 :=
  FEAT (PRS (mulf (ROT (extractStridedSlice S32x2048x512 ![0, 0, 0] (RP a0 a1 a2) slices_S32x2048x3072_S32x2048x512_0_0_0)) (broadcastInDim S32x2048x16x32 ![] bcast_S_S32x2048x16x32 (constant S_ .f32 0x3E8293EE#32))))
def REF1 : FVec Ideal S32x16x512x128 .bf16 := FEAT (extractStridedSlice S32x2048x512 ![0, 0, 1024] (RP a0 a1 a2) slices_S32x2048x3072_S32x2048x512_0_0_1024)
def REF2 : FVec Ideal S32x16x512x128 .bf16 :=
  FEAT (mulf (extractStridedSlice S32x2048x512 ![0, 0, 1536] (RP a0 a1 a2) slices_S32x2048x3072_S32x2048x512_0_0_1536) (broadcastInDim S32x2048x512 ![] bcast_S_S32x2048x512 (constant S_ .f32 0x3E38AA3B#32)))
def REF3 : FVec Ideal S32x16x512x128 .bf16 := FEAT (extractStridedSlice S32x2048x512 ![0, 0, 2560] (RP a0 a1 a2) slices_S32x2048x3072_S32x2048x512_0_0_2560)
def REF4 : FVec Ideal S32x4x2048x128 .bf16 := POSM (PRS (ROT (extractStridedSlice S32x2048x512 ![0, 0, 512] (RP a0 a1 a2) slices_S32x2048x3072_S32x2048x512_0_0_512)))
def REF5 : FVec Ideal S32x4x2048x128 .bf16 := POSM (extractStridedSlice S32x2048x512 ![0, 0, 2048] (RP a0 a1 a2) slices_S32x2048x3072_S32x2048x512_0_0_2048)

/-- One projected feature of one position. -/
def PJ (b : Fin 32) (s : Fin 2048) (n : Fin 3072) : EReal :=
  ∑ d : Fin 1024, unit (fun d => a0 (ix3 b s d)) (fun d => a2 (ix2 0 d)) d * a1 (ix3 0 d n)

theorem RH_at (b : Fin 32) (s : Fin 2048) (d : Fin 1024) : RH a0 a2 (ix3 b s d) = unit (fun d => a0 (ix3 b s d)) (fun d => a2 (ix2 0 d)) d := by
  pointwise! [RH, unit]

theorem RP_at (b : Fin 32) (s : Fin 2048) (n : Fin 3072) : RP a0 a1 a2 (ix3 b s n) = PJ a0 a1 a2 b s n := by
  pointwise [RP, PJ]
  simp only [RH_at]
end

theorem SPR_at (T : FVec Ideal S2048x16 .f32) (b : Fin 32) (s : Fin 2048) (n : Fin 16) (e : Fin 16) : SPR T (ix4 b s n e) = T (ix2 s e) := by
  pointwise [SPR]
theorem LOH_at (A : FVec Ideal S32x2048x512 .f32) (b : Fin 32) (s : Fin 2048) (n : Fin 16) (e : Fin 16) :
    LOH A (ix4 b s n e) = A (ix3 b s ⟨n * 32 + e, by omega⟩) := by
  pointwise [LOH]
theorem HIH_at (A : FVec Ideal S32x2048x512 .f32) (b : Fin 32) (s : Fin 2048) (n : Fin 16) (e : Fin 16) :
    HIH A (ix4 b s n e) = A (ix3 b s ⟨n * 32 + (16 + e), by omega⟩) := by
  pointwise [HIH]

theorem ROT_lo (A : FVec Ideal S32x2048x512 .f32) (b : Fin 32) (s : Fin 2048) (n : Fin 16) (e : Fin 16) :
    ROT A (ix4 b s n ⟨e, by omega⟩) = A (ix3 b s ⟨n * 32 + e, by omega⟩) * COS (ix2 s e) - A (ix3 b s ⟨n * 32 + (16 + e), by omega⟩) * SIN (ix2 s e) := by
  pointwise [ROT]
  simp only [SPR_at, LOH_at, HIH_at]
theorem ROT_hi (A : FVec Ideal S32x2048x512 .f32) (b : Fin 32) (s : Fin 2048) (n : Fin 16) (e : Fin 16) :
    ROT A (ix4 b s n ⟨16 + e, by omega⟩) = A (ix3 b s ⟨n * 32 + (16 + e), by omega⟩) * COS (ix2 s e) + A (ix3 b s ⟨n * 32 + e, by omega⟩) * SIN (ix2 s e) := by
  pointwise [ROT]
  simp only [SPR_at, LOH_at, HIH_at]

theorem PRS_at (X : FVec Ideal S32x2048x16x32 .f32) (b : Fin 32) (s : Fin 2048) (f : Fin 512) :
    PRS X (ix3 b s f) = X (ix4 b s ⟨f / 128 * 4 + f / 16 % 4, by omega⟩ ⟨f / 64 % 2 * 16 + f % 16, by omega⟩) := by
  pointwise [PRS]
theorem FEAT_at (A : FVec Ideal S32x2048x512 .f32) (b : Fin 32) (i : Fin 16) (f : Fin 512) (l : Fin 128) :
    FEAT A (ix4 b i f l) = A (ix3 b ⟨i * 128 + l, by omega⟩ f) := by
  pointwise [FEAT]
theorem POSM_at (A : FVec Ideal S32x2048x512 .f32) (b : Fin 32) (g : Fin 4) (s : Fin 2048) (d : Fin 128) :
    POSM A (ix4 b g s d) = A (ix3 b s ⟨g * 128 + d, by omega⟩) := by
  pointwise [POSM]

/-- The column of the projection that a rotated feature in the lower half comes from. -/
def lay (f : ℕ) : ℕ := (f / 128 * 4 + f / 16 % 4) * 32 + f % 16

theorem lay_lt (f : ℕ) (h : f < 512) : lay f + 16 < 512 := by unfold lay; omega

theorem PRS_ROT_lo (A : FVec Ideal S32x2048x512 .f32) (b : Fin 32) (s : Fin 2048) (f : Fin 512) (hf : f.val / 64 % 2 = 0) :
    PRS (ROT A) (ix3 b s f) = A (ix3 b s ⟨lay f, by have := lay_lt f f.isLt; omega⟩) * COS (ix2 s ⟨f % 16, by omega⟩)
      - A (ix3 b s ⟨lay f + 16, lay_lt f f.isLt⟩) * SIN (ix2 s ⟨f % 16, by omega⟩) := by
  rw [PRS_at]
  have e : (⟨f / 64 % 2 * 16 + f % 16, by omega⟩ : Fin 32) = ⟨(⟨f % 16, by omega⟩ : Fin 16).val, by omega⟩ := by ext; simp; omega
  rw [e, ROT_lo]
  have e2 : (f.val / 128 * 4 + f.val / 16 % 4) * 32 + (16 + f.val % 16) = lay f + 16 := by unfold lay; omega
  simp only [e2]; rfl

theorem PRS_ROT_hi (A : FVec Ideal S32x2048x512 .f32) (b : Fin 32) (s : Fin 2048) (f : Fin 512) (hf : f.val / 64 % 2 = 1) :
    PRS (ROT A) (ix3 b s f) = A (ix3 b s ⟨lay f + 16, lay_lt f f.isLt⟩) * COS (ix2 s ⟨f % 16, by omega⟩)
      + A (ix3 b s ⟨lay f, by have := lay_lt f f.isLt; omega⟩) * SIN (ix2 s ⟨f % 16, by omega⟩) := by
  rw [PRS_at]
  have e : (⟨f / 64 % 2 * 16 + f % 16, by omega⟩ : Fin 32) = ⟨16 + (⟨f % 16, by omega⟩ : Fin 16).val, by omega⟩ := by ext; simp; omega
  rw [e, ROT_hi]
  have e2 : (f.val / 128 * 4 + f.val / 16 % 4) * 32 + (16 + f.val % 16) = lay f + 16 := by unfold lay; omega
  simp only [e2]; rfl

section
variable (a0 : FVec Ideal S32x2048x1024 .f32) (a1 : FVec Ideal S1x1024x3072 .f32) (a2 : FVec Ideal S1x1024 .f32)

theorem SL_at (o : ℕ) (ho : o + 512 ≤ 3072) (hs : _) (b : Fin 32) (s : Fin 2048) (f : Fin 512) :
    extractStridedSlice S32x2048x512 ![0, 0, o] (RP a0 a1 a2) hs (ix3 b s f) = PJ a0 a1 a2 b s ⟨o + f, by omega⟩ := by
  refine Eq.trans ?_ (RP_at a0 a1 a2 b s _)
  pointwise

theorem SCL_at (X : FVec Ideal S32x2048x16x32 .f32) (w : BitVec 32) (b : Fin 32) (s : Fin 2048) (f : Fin 512) :
    PRS (mulf X (broadcastInDim S32x2048x16x32 ![] bcast_S_S32x2048x16x32 (constant S_ .f32 w))) (ix3 b s f) = PRS X (ix3 b s f) * Ideal.ofBits .f32 w := by
  rw [PRS_at, PRS_at]; pointwise

theorem REF0_lo (b : Fin 32) (i : Fin 16) (f : Fin 512) (l : Fin 128) (hf : f.val / 64 % 2 = 0) :
    REF0 a0 a1 a2 (ix4 b i f l) = (PJ a0 a1 a2 b ⟨i * 128 + l, by omega⟩ ⟨lay f, by have := lay_lt f f.isLt; omega⟩ * COS (ix2 ⟨i * 128 + l, by omega⟩ ⟨f % 16, by omega⟩)
      - PJ a0 a1 a2 b ⟨i * 128 + l, by omega⟩ ⟨lay f + 16, by have := lay_lt f f.isLt; omega⟩ * SIN (ix2 ⟨i * 128 + l, by omega⟩ ⟨f % 16, by omega⟩)) * Ideal.ofBits .f32 0x3E8293EE#32 := by
  rw [REF0, FEAT_at, SCL_at, PRS_ROT_lo _ _ _ _ hf, SL_at _ _ _ _ (by omega), SL_at _ _ _ _ (by omega)]
  simp only [zero_add]
theorem REF0_hi (b : Fin 32) (i : Fin 16) (f : Fin 512) (l : Fin 128) (hf : f.val / 64 % 2 = 1) :
    REF0 a0 a1 a2 (ix4 b i f l) = (PJ a0 a1 a2 b ⟨i * 128 + l, by omega⟩ ⟨lay f + 16, by have := lay_lt f f.isLt; omega⟩ * COS (ix2 ⟨i * 128 + l, by omega⟩ ⟨f % 16, by omega⟩)
      + PJ a0 a1 a2 b ⟨i * 128 + l, by omega⟩ ⟨lay f, by have := lay_lt f f.isLt; omega⟩ * SIN (ix2 ⟨i * 128 + l, by omega⟩ ⟨f % 16, by omega⟩)) * Ideal.ofBits .f32 0x3E8293EE#32 := by
  rw [REF0, FEAT_at, SCL_at, PRS_ROT_hi _ _ _ _ hf, SL_at _ _ _ _ (by omega), SL_at _ _ _ _ (by omega)]
  simp only [zero_add]
theorem REF1_at (b : Fin 32) (i : Fin 16) (f : Fin 512) (l : Fin 128) :
    REF1 a0 a1 a2 (ix4 b i f l) = PJ a0 a1 a2 b ⟨i * 128 + l, by omega⟩ ⟨1024 + f, by omega⟩ := by
  rw [REF1, FEAT_at, SL_at _ _ _ _ (by omega)]
theorem REF2_at (b : Fin 32) (i : Fin 16) (f : Fin 512) (l : Fin 128) :
    REF2 a0 a1 a2 (ix4 b i f l) = PJ a0 a1 a2 b ⟨i * 128 + l, by omega⟩ ⟨1536 + f, by omega⟩ * Ideal.ofBits .f32 0x3E38AA3B#32 := by
  rw [REF2, FEAT_at, ← SL_at _ _ _ _ (by omega) slices_S32x2048x3072_S32x2048x512_0_0_1536]
  pointwise
theorem REF3_at (b : Fin 32) (i : Fin 16) (f : Fin 512) (l : Fin 128) :
    REF3 a0 a1 a2 (ix4 b i f l) = PJ a0 a1 a2 b ⟨i * 128 + l, by omega⟩ ⟨2560 + f, by omega⟩ := by
  rw [REF3, FEAT_at, SL_at _ _ _ _ (by omega)]
theorem REF4_lo (b : Fin 32) (g : Fin 4) (s : Fin 2048) (d : Fin 128) (hd : d.val < 64) :
    REF4 a0 a1 a2 (ix4 b g s d) = PJ a0 a1 a2 b s ⟨512 + lay (g * 128 + d), by have := lay_lt (g * 128 + d) (by omega); omega⟩ * COS (ix2 s ⟨d % 16, by omega⟩)
      - PJ a0 a1 a2 b s ⟨512 + (lay (g * 128 + d) + 16), by have := lay_lt (g * 128 + d) (by omega); omega⟩ * SIN (ix2 s ⟨d % 16, by omega⟩) := by
  have e : ((⟨g * 128 + d, by omega⟩ : Fin 512).val) % 16 = d % 16 := by simp; omega
  rw [REF4, POSM_at, PRS_ROT_lo _ _ _ _ (by simp; omega), SL_at _ _ _ _ (by omega), SL_at _ _ _ _ (by omega)]
  simp only [e]
theorem REF4_hi (b : Fin 32) (g : Fin 4) (s : Fin 2048) (d : Fin 128) (hd : 64 ≤ d.val) :
    REF4 a0 a1 a2 (ix4 b g s d) = PJ a0 a1 a2 b s ⟨512 + (lay (g * 128 + d) + 16), by have := lay_lt (g * 128 + d) (by omega); omega⟩ * COS (ix2 s ⟨d % 16, by omega⟩)
      + PJ a0 a1 a2 b s ⟨512 + lay (g * 128 + d), by have := lay_lt (g * 128 + d) (by omega); omega⟩ * SIN (ix2 s ⟨d % 16, by omega⟩) := by
  have e : ((⟨g * 128 + d, by omega⟩ : Fin 512).val) % 16 = d % 16 := by simp; omega
  rw [REF4, POSM_at, PRS_ROT_hi _ _ _ _ (by simp; omega), SL_at _ _ _ _ (by omega), SL_at _ _ _ _ (by omega)]
  simp only [e]
theorem REF5_at (b : Fin 32) (g : Fin 4) (s : Fin 2048) (d : Fin 128) :
    REF5 a0 a1 a2 (ix4 b g s d) = PJ a0 a1 a2 b s ⟨2048 + (g * 128 + d), by omega⟩ := by
  rw [REF5, POSM_at, SL_at _ _ _ _ (by omega)]
end

/-- The reference's run, its results by the names above. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v100) = REF0 (m ((c.tc : Thread nD τ).loc main_arg0)) (m ((c.tc : Thread nD τ).loc main_arg1)) (m ((c.tc : Thread nD τ).loc main_arg2))
      ∧ r.2.mem ((c.tc : Thread nD τ).loc main_v103) = REF1 (m ((c.tc : Thread nD τ).loc main_arg0)) (m ((c.tc : Thread nD τ).loc main_arg1)) (m ((c.tc : Thread nD τ).loc main_arg2))
      ∧ r.2.mem ((c.tc : Thread nD τ).loc main_v106) = REF2 (m ((c.tc : Thread nD τ).loc main_arg0)) (m ((c.tc : Thread nD τ).loc main_arg1)) (m ((c.tc : Thread nD τ).loc main_arg2))
      ∧ r.2.mem ((c.tc : Thread nD τ).loc main_v109) = REF3 (m ((c.tc : Thread nD τ).loc main_arg0)) (m ((c.tc : Thread nD τ).loc main_arg1)) (m ((c.tc : Thread nD τ).loc main_arg2))
      ∧ r.2.mem ((c.tc : Thread nD τ).loc main_v115) = REF4 (m ((c.tc : Thread nD τ).loc main_arg0)) (m ((c.tc : Thread nD τ).loc main_arg1)) (m ((c.tc : Thread nD τ).loc main_arg2))
      ∧ r.2.mem ((c.tc : Thread nD τ).loc main_v118) = REF5 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run (F := Ideal) m ρ

end Cert.ProjRefIdeal.Value
end
-- ==== Proof.ProjPure.lean ====
/- Hand-written, untrusted: the input projection's blocks and payloads at an index. -/
module

public import proofs.«01_k».proof.Proof.ProjRef
public import proofs.«01_k».proof.Proof.Gen.ProjIdeal.Frame
public import proofs.«01_k».proof.Proof.Gen.ProjIdeal.Value
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.ProjIdeal.Value
open Cert.ProjIdeal Cert.ProjIdeal.Gen Cert.ProjRow
open Cert.ProjRefIdeal.Value (lay lay_lt PJ COS SIN ANG)

variable (m : (ℓ : Loc nD τ sig) → Buf (Elt Ideal) ℓ)

/-- Every window's block index at every grid point. -/
theorem idx : ∀ t : Fin cfg0.N, win0_0.index t = ![t.val / 2, t.val % 2, 0]
    ∧ win0_1.index t = ![0, 0]
    ∧ win0_2.index t = ![0, 0]
    ∧ win0_3.index t = ![0, 0]
    ∧ win0_4.index t = ![0, t.val % 2]
    ∧ win0_5.index t = ![0, t.val % 2]
    ∧ win0_6.index t = ![t.val % 2, 0]
    ∧ win0_7.index t = ![t.val % 2, 0]
    ∧ win0_8.index t = ![t.val / 2, t.val % 2, 0, 0]
    ∧ win0_9.index t = ![t.val / 2, t.val % 2, 0, 0]
    ∧ win0_10.index t = ![t.val / 2, t.val % 2, 0, 0]
    ∧ win0_11.index t = ![t.val / 2, t.val % 2, 0, 0]
    ∧ win0_12.index t = ![t.val / 2, 0, t.val % 2, 0]
    ∧ win0_13.index t = ![t.val / 2, 0, t.val % 2, 0] :=
  (by decide +kernel : ∀ t : Fin grid0.N, _)

/-! ## The arrays the host code hands to the region -/

/-- The first layer's weights as a matrix. -/
def WM (A : FVec Ideal S1x1024x3072 .f32) : FVec Ideal S1024x3072 .f32 := shapeCast _ A shapeCasts_S1x1024x3072_S1024x3072

/-- Columns in the kernel's order inside a block of 128. -/
def LAY (A : FVec Ideal S1024x512 .f32) : FVec Ideal S1024x512 .f32 :=
  shapeCast _ (transpose S1024x4x2x4x16 [0, 1, 3, 2, 4] (shapeCast S1024x4x4x2x16 A shapeCasts_S1024x512_S1024x4x4x2x16) transposes_S1024x4x4x2x16_S1024x4x2x4x16_0_1_3_2_4) shapeCasts_S1024x4x2x4x16_S1024x512

/-- The weights of queries and values, transposed. -/
def WQV (A : FVec Ideal S1024x3072 .f32) : FVec Ideal S2048x1024 .bf16 :=
  truncf .bf16 (transpose S2048x1024 [1, 0] (concatenate S1024x2048 1 [⟨S1024x512, LAY (extractStridedSlice S1024x512 ![0, 0] A slices_S1024x3072_S1024x512_0_0)⟩,
    ⟨S1024x512, extractStridedSlice S1024x512 ![0, 1024] A slices_S1024x3072_S1024x512_0_1024⟩,
    ⟨S1024x512, extractStridedSlice S1024x512 ![0, 1536] A slices_S1024x3072_S1024x512_0_1536⟩,
    ⟨S1024x512, extractStridedSlice S1024x512 ![0, 2560] A slices_S1024x3072_S1024x512_0_2560⟩] concatenates_S1024x512_S1024x512_S1024x512_S1024x512_S1024x2048_d1) transposes_S1024x2048_S2048x1024_1_0) bitsLt_bf16_f32

/-- The weights of the keys. -/
def WK (A : FVec Ideal S1024x3072 .f32) : FVec Ideal S1024x1024 .bf16 :=
  truncf .bf16 (concatenate S1024x1024 1 [⟨S1024x512, LAY (extractStridedSlice S1024x512 ![0, 512] A slices_S1024x3072_S1024x512_0_512)⟩,
    ⟨S1024x512, extractStridedSlice S1024x512 ![0, 2048] A slices_S1024x3072_S1024x512_0_2048⟩] concatenates_S1024x512_S1024x512_S1024x1024_d1) bitsLt_bf16_f32

/-- A table over positions, transposed, once per map and head, times the scale. -/
def TBT (T : FVec Ideal S2048x16 .f32) : FVec Ideal S64x2048 .f32 :=
  mulf (shapeCast _ (broadcastInDim S4x16x1x2048 ![0, 1, 2, 3] bcast_S1x16x1x2048_S4x16x1x2048_0_1_2_3 (shapeCast S1x16x1x2048 (transpose S16x2048 [1, 0] T transposes_S2048x16_S16x2048_1_0) shapeCasts_S16x2048_S1x16x1x2048)) shapeCasts_S4x16x1x2048_S64x2048) (broadcastInDim S64x2048 ![] bcast_S_S64x2048 (constant S_ .f32 0x3E8293EE#32))

/-- A table over positions, eight times along a row. -/
def TBL (T : FVec Ideal S2048x16 .f32) : FVec Ideal S2048x128 .f32 :=
  shapeCast _ (broadcastInDim S1x2048x8x16 ![0, 1, 2, 3] bcast_S1x2048x1x16_S1x2048x8x16_0_1_2_3 (shapeCast S1x2048x1x16 T shapeCasts_S2048x16_S1x2048x1x16)) shapeCasts_S1x2048x8x16_S2048x128

/-- The sign of each half of a row. -/
def SGN : FVec Ideal S128 .f32 :=
  select (cmpi .slt (iotaInDim S128 32 0) (broadcastInDim S128 ![] bcast_S_S128 (constantI S_ 32 64#32))) (broadcastInDim S128 ![] bcast_S_S128 (constant S_ .f32 0xBF800000#32)) (broadcastInDim S128 ![] bcast_S_S128 (constant S_ .f32 0x3F800000#32))

theorem V14 (c : Dev nD) : V m c main_v14 = WQV (WM (m ((c : Thread nD τ).loc main_arg1))) := by
  unfold V; simp only [hostOps0, hostOps0_1, hostOps0_2, List.flatten_cons, List.flatten_nil, List.append_nil]; after_reads_simp; rfl
theorem V17 (c : Dev nD) : V m c main_v17 = WK (WM (m ((c : Thread nD τ).loc main_arg1))) := by
  unfold V; simp only [hostOps0, hostOps0_1, hostOps0_2, List.flatten_cons, List.flatten_nil, List.append_nil]; after_reads_simp; rfl
theorem V38 (c : Dev nD) : V m c main_v38 = TBT COS := by
  unfold V; simp only [hostOps0, hostOps0_1, hostOps0_2, List.flatten_cons, List.flatten_nil, List.append_nil]; after_reads_simp; rfl
theorem V44 (c : Dev nD) : V m c main_v44 = TBT SIN := by
  unfold V; simp only [hostOps0, hostOps0_1, hostOps0_2, List.flatten_cons, List.flatten_nil, List.append_nil]; after_reads_simp; rfl
theorem V47 (c : Dev nD) : V m c main_v47 = TBL COS := by
  unfold V; simp only [hostOps0, hostOps0_1, hostOps0_2, List.flatten_cons, List.flatten_nil, List.append_nil]; after_reads_simp; rfl
theorem V58 (c : Dev nD) : V m c main_v58 = mulf (TBL SIN) (broadcastInDim S2048x128 ![0, 1] bcast_S1x128_S2048x128_0_1 (broadcastInDim S1x128 ![1] bcast_S128_S1x128_1 SGN)) := by
  unfold V; simp only [hostOps0, hostOps0_1, hostOps0_2, List.flatten_cons, List.flatten_nil, List.append_nil]; after_reads_simp; rfl
theorem V60 (c : Dev nD) : V m c main_v60 = shapeCast S1x1024 (shapeCast S1024 (m ((c : Thread nD τ).loc main_arg2)) shapeCasts_S1x1024_S1024) shapeCasts_S1024_S1x1024 := by
  unfold V; simp only [hostOps0, hostOps0_1, hostOps0_2, List.flatten_cons, List.flatten_nil, List.append_nil]; after_reads_simp; rfl

/-! ## They at an index -/

theorem WM_at (A : FVec Ideal S1x1024x3072 .f32) (d : Fin 1024) (j : Fin 3072) : WM A (ix2 d j) = A (ix3 0 d j) := by pointwise! [WM]
theorem LAY_at (A : FVec Ideal S1024x512 .f32) (d : Fin 1024) (n : Fin 512) :
    LAY A (ix2 d n) = A (ix2 d ⟨lay n + n / 64 % 2 * 16, by have := lay_lt n n.isLt; omega⟩) := by
  have e : (lay n + n.val / 64 % 2 * 16) = n.val / 128 * 128 + n.val / 16 % 4 * 32 + n.val / 64 % 2 * 16 + n.val % 16 := by unfold lay; omega
  simp only [e]; pointwise! [LAY]
theorem TBT_at (T : FVec Ideal S2048x16 .f32) (k : Fin 64) (s : Fin 2048) :
    TBT T (ix2 k s) = T (ix2 s ⟨k % 16, by omega⟩) * Ideal.ofBits .f32 0x3E8293EE#32 := by pointwise! [TBT]
theorem TBL_at (T : FVec Ideal S2048x16 .f32) (s : Fin 2048) (d : Fin 128) :
    TBL T (ix2 s d) = T (ix2 s ⟨d % 16, by omega⟩) := by pointwise! [TBL]
theorem WQVa_at (A : FVec Ideal S1024x3072 .f32) (n : Fin 512) (d : Fin 1024) :
    WQV A (ix2 ⟨n, by omega⟩ d) = A (ix2 d ⟨lay n + n / 64 % 2 * 16, by have := lay_lt n n.isLt; omega⟩) := by
  refine Eq.trans (b := LAY (extractStridedSlice S1024x512 ![0, 0] A slices_S1024x3072_S1024x512_0_0) (ix2 d n)) ?_ ?_
  · pointwise [WQV]
  · rw [LAY_at]; pointwise
theorem WQVb_at (A : FVec Ideal S1024x3072 .f32) (n : Fin 512) (d : Fin 1024) :
    WQV A (ix2 ⟨512 + n, by omega⟩ d) = A (ix2 d ⟨1024 + n, by omega⟩) := by pointwise [WQV]
theorem WQVc_at (A : FVec Ideal S1024x3072 .f32) (n : Fin 512) (d : Fin 1024) :
    WQV A (ix2 ⟨1024 + n, by omega⟩ d) = A (ix2 d ⟨1536 + n, by omega⟩) := by
  pointwise [WQV]
  rw [dif_neg (by omega), dif_neg (by omega), dif_pos (by omega)]
  congr 3; omega
theorem WQVd_at (A : FVec Ideal S1024x3072 .f32) (n : Fin 512) (d : Fin 1024) :
    WQV A (ix2 ⟨1536 + n, by omega⟩ d) = A (ix2 d ⟨2560 + n, by omega⟩) := by
  pointwise [WQV]
  rw [dif_neg (by omega), dif_neg (by omega), dif_neg (by omega)]
  congr 3; omega
theorem WKa_at (A : FVec Ideal S1024x3072 .f32) (n : Fin 512) (d : Fin 1024) :
    WK A (ix2 d ⟨n, by omega⟩) = A (ix2 d ⟨512 + (lay n + n / 64 % 2 * 16), by have := lay_lt n n.isLt; omega⟩) := by
  refine Eq.trans (b := LAY (extractStridedSlice S1024x512 ![0, 512] A slices_S1024x3072_S1024x512_0_512) (ix2 d n)) ?_ ?_
  · pointwise [WK]
  · rw [LAY_at]; pointwise
theorem WKb_at (A : FVec Ideal S1024x3072 .f32) (n : Fin 512) (d : Fin 1024) :
    WK A (ix2 d ⟨512 + n, by omega⟩) = A (ix2 d ⟨2048 + n, by omega⟩) := by pointwise [WK]
theorem SGN_at (d : Fin 128) : SGN (ix1 d) = if d.val < 64 then (-1 : EReal) else 1 := by
  have e : Ideal.ofBits .f32 0xBF800000#32 = (-1 : EReal) := by
    refine Eq.trans (b := ((-(1 : ℝ)) : EReal)) ?_ (by simp)
    simp [Ideal.ofBits, Ideal.ieee, -EReal.coe_mul, -EReal.coe_neg]; norm_num
  have h : ∀ d : Fin 128, IntOp.cmpi CmpIPredicate.slt (BitVec.ofNat 32 d.val) 64#32 = BitVec.ofBool (d.val < 64) := by decide
  pointwise [SGN]
  rw [h, e]
  by_cases hd : d.val < 64
  · rw [if_pos hd, decide_eq_true hd]; rfl
  · rw [if_neg hd, decide_eq_false hd]; rfl

/-! ## The windows' blocks at an index -/

theorem blk0 (c : Dev nD) (t : Fin cfg0.N) (r : Fin 1024) (d : Fin 1024) (ht : t.val < 64) :
    iblk m c 0 t (ix3 0 r d) = m ((c : Thread nD τ).loc main_arg0) (ix3 ⟨t.val / 2, by omega⟩ ⟨t.val % 2 * 1024 + r, by omega⟩ d) := by
  blk_point [iblk, V, idx t]
theorem blk1 (c : Dev nD) (t : Fin cfg0.N) (d : Fin 1024) :
    iblk m c 1 t (ix2 0 d) = m ((c : Thread nD τ).loc main_arg2) (ix2 0 d) := by
  refine Eq.trans (b := V m c main_v60 (ix2 0 d)) ?_ ?_
  · blk_point [iblk, idx t]
  · rw [V60]; pointwise
theorem blk2 (c : Dev nD) (t : Fin cfg0.N) (n : Fin 2048) (d : Fin 1024) : iblk m c 2 t (ix2 n d) = WQV (WM (m ((c : Thread nD τ).loc main_arg1))) (ix2 n d) := by
  rw [← V14]; blk_point [iblk, idx t]
theorem blk3 (c : Dev nD) (t : Fin cfg0.N) (d n : Fin 1024) : iblk m c 3 t (ix2 d n) = WK (WM (m ((c : Thread nD τ).loc main_arg1))) (ix2 d n) := by
  rw [← V17]; blk_point [iblk, idx t]
theorem blk4 (c : Dev nD) (t : Fin cfg0.N) (k : Fin 64) (r : Fin 1024) :
    iblk m c 4 t (ix2 k r) = COS (ix2 ⟨t.val % 2 * 1024 + r, by omega⟩ ⟨k % 16, by omega⟩) * Ideal.ofBits .f32 0x3E8293EE#32 := by
  rw [← TBT_at COS, ← V38 m c]; blk_point [iblk, idx t]
theorem blk5 (c : Dev nD) (t : Fin cfg0.N) (k : Fin 64) (r : Fin 1024) :
    iblk m c 5 t (ix2 k r) = SIN (ix2 ⟨t.val % 2 * 1024 + r, by omega⟩ ⟨k % 16, by omega⟩) * Ideal.ofBits .f32 0x3E8293EE#32 := by
  rw [← TBT_at SIN, ← V44 m c]; blk_point [iblk, idx t]
theorem blk6 (c : Dev nD) (t : Fin cfg0.N) (r : Fin 1024) (d : Fin 128) :
    iblk m c 6 t (ix2 r d) = COS (ix2 ⟨t.val % 2 * 1024 + r, by omega⟩ ⟨d % 16, by omega⟩) := by
  rw [← TBL_at COS, ← V47 m c]; blk_point [iblk, idx t]
theorem blk7 (c : Dev nD) (t : Fin cfg0.N) (r : Fin 1024) (d : Fin 128) :
    iblk m c 7 t (ix2 r d) = SIN (ix2 ⟨t.val % 2 * 1024 + r, by omega⟩ ⟨d % 16, by omega⟩) * SGN (ix1 d) := by
  rw [← TBL_at SIN]
  refine Eq.trans (b := V m c main_v58 (ix2 ⟨t.val % 2 * 1024 + r, by omega⟩ d)) ?_ ?_
  · blk_point [iblk, idx t]
  · rw [V58]; pointwise

end Cert.ProjIdeal.Value
end
-- ==== Proof.ProjFinal.lean ====
/- Hand-written, untrusted: what every tile of the input projection holds, and the arrays after the run. -/
module

public import proofs.«01_k».proof.Proof.ProjPure

@[expose] public section

set_option maxRecDepth 16384

noncomputable section

open Idealize.ShloMosaic Idealize.ShloMosaic.TcCoe Idealize.SL.Sem
open Idealize.ShloMosaic.Pipeline (Dat)
open scoped BigOperators

namespace Cert.ProjIdeal.Value
open Cert.ProjIdeal Cert.ProjIdeal.Gen Cert.ProjRow
open Cert.ProjRefIdeal.Value (lay lay_lt PJ COS SIN ANG REF0 REF1 REF2 REF3 REF4 REF5)

variable (m : (ℓ : Loc nD τ sig) → Buf (Elt Ideal) ℓ)

/-! ## Arithmetic of the rotations -/

theorem word_pos : ∃ w : ℝ, 0 ≤ w ∧ Ideal.ofBits .f32 0x3E8293EE#32 = (w : EReal) := by
  refine ⟨_, ?_, by simp [Ideal.ofBits, Ideal.ieee, -EReal.coe_mul]; rfl⟩
  norm_num

theorem rot_sub (a b x y : EReal) : a * (x * Ideal.ofBits .f32 0x3E8293EE#32) - b * (y * Ideal.ofBits .f32 0x3E8293EE#32)
    = (a * x - b * y) * Ideal.ofBits .f32 0x3E8293EE#32 := by
  obtain ⟨w, hw, ew⟩ := word_pos
  rw [ew, sub_eq_add_neg, sub_eq_add_neg, EReal.right_distrib_of_nonneg_of_ne_top (by exact_mod_cast hw) (EReal.coe_ne_top w), EReal.neg_mul, mul_assoc, mul_assoc]
theorem rot_add (a b x y : EReal) : a * (x * Ideal.ofBits .f32 0x3E8293EE#32) + b * (y * Ideal.ofBits .f32 0x3E8293EE#32)
    = (a * x + b * y) * Ideal.ofBits .f32 0x3E8293EE#32 := by
  obtain ⟨w, hw, ew⟩ := word_pos
  rw [ew, EReal.right_distrib_of_nonneg_of_ne_top (by exact_mod_cast hw) (EReal.coe_ne_top w), mul_assoc, mul_assoc]

/-! ## The payloads at an index -/

section
variable (x0 : FVec Ideal S1x1024x1024 .f32) (x1 : FVec Ideal S1x1024 .f32) (x2 : FVec Ideal S2048x1024 .bf16) (x3 : FVec Ideal S1024x1024 .bf16)
  (x4 x5 : FVec Ideal S64x1024 .f32) (x6 x7 : FVec Ideal S1024x128 .f32)

theorem h_at (r d : Fin 1024) : k0_pay136 (F := Ideal) x0 x1 x2 x3 x4 x5 x6 x7 (ix2 r d) = unit (fun d => x0 (ix3 0 r d)) (fun d => x1 (ix2 0 d)) d := by
  pointwise! [k0_pay136, k0_pay4, unit]
theorem qv_at (n : Fin 2048) (r : Fin 1024) : k0_pay137 (F := Ideal) x0 x1 x2 x3 x4 x5 x6 x7 (ix2 n r)
    = ∑ d : Fin 1024, x2 (ix2 n d) * k0_pay136 (F := Ideal) x0 x1 x2 x3 x4 x5 x6 x7 (ix2 r d) := by
  unfold k0_pay136
  pointwise [k0_pay137, k0_pay5]
theorem k_at (r n : Fin 1024) : k0_pay152 (F := Ideal) x0 x1 x2 x3 x4 x5 x6 x7 (ix2 r n)
    = ∑ d : Fin 1024, k0_pay136 (F := Ideal) x0 x1 x2 x3 x4 x5 x6 x7 (ix2 r d) * x3 (ix2 d n) := by
  pointwise [k0_pay152, k0_pay125]
theorem cq_at (k : Fin 64) (r : Fin 1024) : k0_pay138 (F := Ideal) x0 x1 x2 x3 x4 x5 x6 x7 (ix2 k r) = x4 (ix2 k r) := by
  pointwise [k0_pay138, k0_pay6]
theorem sq_at (k : Fin 64) (r : Fin 1024) : k0_pay139 (F := Ideal) x0 x1 x2 x3 x4 x5 x6 x7 (ix2 k r) = x5 (ix2 k r) := by
  pointwise [k0_pay139, k0_pay7]
theorem ck_at (r : Fin 1024) (d : Fin 128) : k0_pay153 (F := Ideal) x0 x1 x2 x3 x4 x5 x6 x7 (ix2 r d) = x6 (ix2 r d) := by
  pointwise [k0_pay153, k0_pay126]
theorem sk_at (r : Fin 1024) (d : Fin 128) : k0_pay154 (F := Ideal) x0 x1 x2 x3 x4 x5 x6 x7 (ix2 r d) = x7 (ix2 r d) := by
  pointwise [k0_pay154, k0_pay127]
end

/-- A tile of rotated queries, lower half, at an index. -/
theorem lo_at (o o' c : ℕ) (h1 : o + 64 ≤ 2048) (h2 : o' + 64 ≤ 2048) (h3 : c + 128 ≤ 1024) (Q : FVec Ideal S2048x1024 .f32) (C S : FVec Ideal S64x1024 .f32) (s1 s2 s3 b q)
    (k : Fin 64) (l : Fin 128) :
    shapeCast S1x1x64x128 (extractStridedSlice S64x128 ![0, c] (truncf .bf16 (subf (mulf (extractStridedSlice S64x1024 ![o, 0] Q s1) C)
      (mulf (extractStridedSlice S64x1024 ![o', 0] Q s2) S)) b) s3) q (ix4 0 0 k l)
      = Q (ix2 ⟨o + k, by omega⟩ ⟨c + l, by omega⟩) * C (ix2 k ⟨c + l, by omega⟩) - Q (ix2 ⟨o' + k, by omega⟩ ⟨c + l, by omega⟩) * S (ix2 k ⟨c + l, by omega⟩) := by
  pointwise
/-- A tile of rotated queries, upper half, at an index. -/
theorem hi_at (o o' c : ℕ) (h1 : o + 64 ≤ 2048) (h2 : o' + 64 ≤ 2048) (h3 : c + 128 ≤ 1024) (Q : FVec Ideal S2048x1024 .f32) (C S : FVec Ideal S64x1024 .f32) (s1 s2 s3 b q)
    (k : Fin 64) (l : Fin 128) :
    shapeCast S1x1x64x128 (extractStridedSlice S64x128 ![0, c] (truncf .bf16 (addf (mulf (extractStridedSlice S64x1024 ![o', 0] Q s2) C)
      (mulf (extractStridedSlice S64x1024 ![o, 0] Q s1) S)) b) s3) q (ix4 0 0 k l)
      = Q (ix2 ⟨o' + k, by omega⟩ ⟨c + l, by omega⟩) * C (ix2 k ⟨c + l, by omega⟩) + Q (ix2 ⟨o + k, by omega⟩ ⟨c + l, by omega⟩) * S (ix2 k ⟨c + l, by omega⟩) := by
  pointwise
theorem cut_at (c : ℕ) (h3 : c + 128 ≤ 1024) (A : FVec Ideal S512x1024 .bf16) (s3 q) (k : Fin 512) (l : Fin 128) :
    shapeCast S1x1x512x128 (extractStridedSlice S512x128 ![0, c] A s3) q (ix4 0 0 k l) = A (ix2 k ⟨c + l, by omega⟩) := by
  pointwise
theorem key_at (o : ℕ) (ho : o + 128 ≤ 1024) (K : FVec Ideal S1024x1024 .f32) (C S : FVec Ideal S1024x128 .f32) (s1 b q r0) (r : Fin 1024) (d : Fin 128) :
    shapeCast S1x1x1024x128 (truncf .bf16 (addf (mulf (extractStridedSlice S1024x128 ![0, o] K s1) C)
      (mulf (dynamicRotate 1 64#32 none (extractStridedSlice S1024x128 ![0, o] K s1) r0) S)) b) q (ix4 0 0 r d)
      = K (ix2 r ⟨o + d, by omega⟩) * C (ix2 r d) + K (ix2 r ⟨o + (d + 128 - 64) % 128, by omega⟩) * S (ix2 r d) := by
  pointwise
theorem row_at (o : ℕ) (ho : o + 128 ≤ 1024) (K : FVec Ideal S1024x1024 .f32) (s1 b q) (r : Fin 1024) (d : Fin 128) :
    shapeCast S1x1x1024x128 (truncf .bf16 (extractStridedSlice S1024x128 ![0, o] K s1) b) q (ix4 0 0 r d)
      = K (ix2 r ⟨o + d, by omega⟩) := by
  pointwise

/-! ## The products at a grid point -/

theorem hn_at (c : Dev nD) (t : Fin cfg0.N) (ht : t.val < 64) (r d : Fin 1024) :
    k0_pay136 (F := Ideal) (iblk m c 0 t) (iblk m c 1 t) (iblk m c 2 t) (iblk m c 3 t) (iblk m c 4 t) (iblk m c 5 t) (iblk m c 6 t) (iblk m c 7 t) (ix2 r d)
      = unit (fun d => m ((c : Thread nD τ).loc main_arg0) (ix3 ⟨t.val / 2, by omega⟩ ⟨t.val % 2 * 1024 + r, by omega⟩ d)) (fun d => m ((c : Thread nD τ).loc main_arg2) (ix2 0 d)) d := by
  rw [h_at]
  simp only [blk0 m c t _ _ ht, blk1]

theorem qa_at (c : Dev nD) (t : Fin cfg0.N) (ht : t.val < 64) (n : Fin 512) (r : Fin 1024) :
    k0_pay137 (F := Ideal) (iblk m c 0 t) (iblk m c 1 t) (iblk m c 2 t) (iblk m c 3 t) (iblk m c 4 t) (iblk m c 5 t) (iblk m c 6 t) (iblk m c 7 t) (ix2 ⟨n, by omega⟩ r) = PJ (m ((c : Thread nD τ).loc main_arg0)) (m ((c : Thread nD τ).loc main_arg1)) (m ((c : Thread nD τ).loc main_arg2)) ⟨t.val / 2, by omega⟩ ⟨t.val % 2 * 1024 + r, by omega⟩ ⟨lay n + n / 64 % 2 * 16, by have := lay_lt n n.isLt; omega⟩ := by
  rw [qv_at]
  refine Finset.sum_congr rfl fun d _ => ?_
  rw [hn_at m c t ht, blk2, WQVa_at, WM_at, mul_comm]

theorem va_at (c : Dev nD) (t : Fin cfg0.N) (ht : t.val < 64) (n : Fin 512) (r : Fin 1024) :
    k0_pay137 (F := Ideal) (iblk m c 0 t) (iblk m c 1 t) (iblk m c 2 t) (iblk m c 3 t) (iblk m c 4 t) (iblk m c 5 t) (iblk m c 6 t) (iblk m c 7 t) (ix2 ⟨512 + n, by omega⟩ r) = PJ (m ((c : Thread nD τ).loc main_arg0)) (m ((c : Thread nD τ).loc main_arg1)) (m ((c : Thread nD τ).loc main_arg2)) ⟨t.val / 2, by omega⟩ ⟨t.val % 2 * 1024 + r, by omega⟩ ⟨1024 + n, by omega⟩ := by
  rw [qv_at]
  refine Finset.sum_congr rfl fun d _ => ?_
  rw [hn_at m c t ht, blk2, WQVb_at, WM_at, mul_comm]

theorem qb_at (c : Dev nD) (t : Fin cfg0.N) (ht : t.val < 64) (n : Fin 512) (r : Fin 1024) :
    k0_pay137 (F := Ideal) (iblk m c 0 t) (iblk m c 1 t) (iblk m c 2 t) (iblk m c 3 t) (iblk m c 4 t) (iblk m c 5 t) (iblk m c 6 t) (iblk m c 7 t) (ix2 ⟨1024 + n, by omega⟩ r) = PJ (m ((c : Thread nD τ).loc main_arg0)) (m ((c : Thread nD τ).loc main_arg1)) (m ((c : Thread nD τ).loc main_arg2)) ⟨t.val / 2, by omega⟩ ⟨t.val % 2 * 1024 + r, by omega⟩ ⟨1536 + n, by omega⟩ := by
  rw [qv_at]
  refine Finset.sum_congr rfl fun d _ => ?_
  rw [hn_at m c t ht, blk2, WQVc_at, WM_at, mul_comm]

theorem vb_at (c : Dev nD) (t : Fin cfg0.N) (ht : t.val < 64) (n : Fin 512) (r : Fin 1024) :
    k0_pay137 (F := Ideal) (iblk m c 0 t) (iblk m c 1 t) (iblk m c 2 t) (iblk m c 3 t) (iblk m c 4 t) (iblk m c 5 t) (iblk m c 6 t) (iblk m c 7 t) (ix2 ⟨1536 + n, by omega⟩ r) = PJ (m ((c : Thread nD τ).loc main_arg0)) (m ((c : Thread nD τ).loc main_arg1)) (m ((c : Thread nD τ).loc main_arg2)) ⟨t.val / 2, by omega⟩ ⟨t.val % 2 * 1024 + r, by omega⟩ ⟨2560 + n, by omega⟩ := by
  rw [qv_at]
  refine Finset.sum_congr rfl fun d _ => ?_
  rw [hn_at m c t ht, blk2, WQVd_at, WM_at, mul_comm]

theorem ka_at (c : Dev nD) (t : Fin cfg0.N) (ht : t.val < 64) (n : Fin 512) (r : Fin 1024) :
    k0_pay152 (F := Ideal) (iblk m c 0 t) (iblk m c 1 t) (iblk m c 2 t) (iblk m c 3 t) (iblk m c 4 t) (iblk m c 5 t) (iblk m c 6 t) (iblk m c 7 t) (ix2 r ⟨n, by omega⟩) = PJ (m ((c : Thread nD τ).loc main_arg0)) (m ((c : Thread nD τ).loc main_arg1)) (m ((c : Thread nD τ).loc main_arg2)) ⟨t.val / 2, by omega⟩ ⟨t.val % 2 * 1024 + r, by omega⟩ ⟨512 + (lay n + n / 64 % 2 * 16), by have := lay_lt n n.isLt; omega⟩ := by
  rw [k_at]
  refine Finset.sum_congr rfl fun d _ => ?_
  rw [hn_at m c t ht, blk3, WKa_at, WM_at]

theorem kb_at (c : Dev nD) (t : Fin cfg0.N) (ht : t.val < 64) (n : Fin 512) (r : Fin 1024) :
    k0_pay152 (F := Ideal) (iblk m c 0 t) (iblk m c 1 t) (iblk m c 2 t) (iblk m c 3 t) (iblk m c 4 t) (iblk m c 5 t) (iblk m c 6 t) (iblk m c 7 t) (ix2 r ⟨512 + n, by omega⟩) = PJ (m ((c : Thread nD τ).loc main_arg0)) (m ((c : Thread nD τ).loc main_arg1)) (m ((c : Thread nD τ).loc main_arg2)) ⟨t.val / 2, by omega⟩ ⟨t.val % 2 * 1024 + r, by omega⟩ ⟨2048 + n, by omega⟩ := by
  rw [k_at]
  refine Finset.sum_congr rfl fun d _ => ?_
  rw [hn_at m c t ht, blk3, WKb_at, WM_at]

theorem PJ_congr (a0 : FVec Ideal S32x2048x1024 .f32) (a1 : FVec Ideal S1x1024x3072 .f32) (a2 : FVec Ideal S1x1024 .f32) (b : Fin 32) (s s' : Fin 2048) (n n' : Fin 3072)
    (hs : s.val = s'.val) (hn : n.val = n'.val) : PJ a0 a1 a2 b s n = PJ a0 a1 a2 b s' n' := by
  rw [Fin.ext hs, Fin.ext hn]
theorem TB_congr (T : FVec Ideal Cert.ProjRefIdeal.S2048x16 .f32) (s s' : Fin 2048) (e e' : Fin 16)
    (hs : s.val = s'.val) (hn : e.val = e'.val) : T (ix2 s e) = T (ix2 s' e') := by
  rw [Fin.ext hs, Fin.ext hn]

/-! ## The tiles -/

theorem lo_tile (c : Dev nD) (t : Fin cfg0.N) (ht : t.val < 64) (o o' p : ℕ) (ho : o + 128 ≤ 512) (hm : o % 128 = 0) (h' : o' = o + 64) (hp : p + 128 ≤ 1024) (hq : p % 128 = 0)
    (s1 s2 s3 b q) (k : Fin 64) (l : Fin 128) :
    shapeCast S1x1x64x128 (extractStridedSlice S64x128 ![0, p] (truncf .bf16 (subf (mulf (extractStridedSlice S64x1024 ![o, 0] (k0_pay137 (F := Ideal) (iblk m c 0 t) (iblk m c 1 t) (iblk m c 2 t) (iblk m c 3 t) (iblk m c 4 t) (iblk m c 5 t) (iblk m c 6 t) (iblk m c 7 t)) s1) (k0_pay138 (F := Ideal) (iblk m c 0 t) (iblk m c 1 t) (iblk m c 2 t) (iblk m c 3 t) (iblk m c 4 t) (iblk m c 5 t) (iblk m c 6 t) (iblk m c 7 t)))
      (mulf (extractStridedSlice S64x1024 ![o', 0] (k0_pay137 (F := Ideal) (iblk m c 0 t) (iblk m c 1 t) (iblk m c 2 t) (iblk m c 3 t) (iblk m c 4 t) (iblk m c 5 t) (iblk m c 6 t) (iblk m c 7 t)) s2) (k0_pay139 (F := Ideal) (iblk m c 0 t) (iblk m c 1 t) (iblk m c 2 t) (iblk m c 3 t) (iblk m c 4 t) (iblk m c 5 t) (iblk m c 6 t) (iblk m c 7 t)))) b) s3) q (ix4 0 0 k l)
      = REF0 (m ((c : Thread nD τ).loc main_arg0)) (m ((c : Thread nD τ).loc main_arg1)) (m ((c : Thread nD τ).loc main_arg2)) (ix4 ⟨t.val / 2, by omega⟩ ⟨t.val % 2 * 8 + p / 128, by omega⟩ ⟨o + k, by omega⟩ l) := by
  rw [lo_at _ _ _ (by omega) (by omega) hp, cq_at, sq_at, blk4, blk5,
    show (⟨o + k, by omega⟩ : Fin 2048) = ⟨(⟨o + k, by omega⟩ : Fin 512).val, by omega⟩ from rfl, qa_at m c t ht,
    show (⟨o' + k, by omega⟩ : Fin 2048) = ⟨(⟨o' + k, by omega⟩ : Fin 512).val, by omega⟩ from rfl, qa_at m c t ht, rot_sub,
    Cert.ProjRefIdeal.Value.REF0_lo _ _ _ _ _ _ _ (by simp only []; omega)]
  congr 3 <;> first | (refine PJ_congr _ _ _ _ _ _ _ _ ?_ ?_ <;> simp only [lay] <;> omega) | (refine TB_congr _ _ _ _ _ ?_ ?_ <;> simp only [] <;> omega)
theorem hi_tile (c : Dev nD) (t : Fin cfg0.N) (ht : t.val < 64) (o o' p : ℕ) (ho : o + 128 ≤ 512) (hm : o % 128 = 0) (h' : o' = o + 64) (hp : p + 128 ≤ 1024) (hq : p % 128 = 0)
    (s1 s2 s3 b q) (k : Fin 64) (l : Fin 128) :
    shapeCast S1x1x64x128 (extractStridedSlice S64x128 ![0, p] (truncf .bf16 (addf (mulf (extractStridedSlice S64x1024 ![o', 0] (k0_pay137 (F := Ideal) (iblk m c 0 t) (iblk m c 1 t) (iblk m c 2 t) (iblk m c 3 t) (iblk m c 4 t) (iblk m c 5 t) (iblk m c 6 t) (iblk m c 7 t)) s2) (k0_pay138 (F := Ideal) (iblk m c 0 t) (iblk m c 1 t) (iblk m c 2 t) (iblk m c 3 t) (iblk m c 4 t) (iblk m c 5 t) (iblk m c 6 t) (iblk m c 7 t)))
      (mulf (extractStridedSlice S64x1024 ![o, 0] (k0_pay137 (F := Ideal) (iblk m c 0 t) (iblk m c 1 t) (iblk m c 2 t) (iblk m c 3 t) (iblk m c 4 t) (iblk m c 5 t) (iblk m c 6 t) (iblk m c 7 t)) s1) (k0_pay139 (F := Ideal) (iblk m c 0 t) (iblk m c 1 t) (iblk m c 2 t) (iblk m c 3 t) (iblk m c 4 t) (iblk m c 5 t) (iblk m c 6 t) (iblk m c 7 t)))) b) s3) q (ix4 0 0 k l)
      = REF0 (m ((c : Thread nD τ).loc main_arg0)) (m ((c : Thread nD τ).loc main_arg1)) (m ((c : Thread nD τ).loc main_arg2)) (ix4 ⟨t.val / 2, by omega⟩ ⟨t.val % 2 * 8 + p / 128, by omega⟩ ⟨o' + k, by omega⟩ l) := by
  rw [hi_at _ _ _ (by omega) (by omega) hp, cq_at, sq_at, blk4, blk5,
    show (⟨o + k, by omega⟩ : Fin 2048) = ⟨(⟨o + k, by omega⟩ : Fin 512).val, by omega⟩ from rfl, qa_at m c t ht,
    show (⟨o' + k, by omega⟩ : Fin 2048) = ⟨(⟨o' + k, by omega⟩ : Fin 512).val, by omega⟩ from rfl, qa_at m c t ht, rot_add,
    Cert.ProjRefIdeal.Value.REF0_hi _ _ _ _ _ _ _ (by simp only []; omega)]
  congr 3 <;> first | (refine PJ_congr _ _ _ _ _ _ _ _ ?_ ?_ <;> simp only [lay] <;> omega) | (refine TB_congr _ _ _ _ _ ?_ ?_ <;> simp only [] <;> omega)
theorem va_tile (c : Dev nD) (t : Fin cfg0.N) (ht : t.val < 64) (p : ℕ) (hp : p + 128 ≤ 1024) (hq : p % 128 = 0) (s3 q) (k : Fin 512) (l : Fin 128) :
    shapeCast S1x1x512x128 (extractStridedSlice S512x128 ![0, p] (k0_pay148 (F := Ideal) (iblk m c 0 t) (iblk m c 1 t) (iblk m c 2 t) (iblk m c 3 t) (iblk m c 4 t) (iblk m c 5 t) (iblk m c 6 t) (iblk m c 7 t)) s3) q (ix4 0 0 k l)
      = REF1 (m ((c : Thread nD τ).loc main_arg0)) (m ((c : Thread nD τ).loc main_arg1)) (m ((c : Thread nD τ).loc main_arg2)) (ix4 ⟨t.val / 2, by omega⟩ ⟨t.val % 2 * 8 + p / 128, by omega⟩ k l) := by
  rw [cut_at _ hp, Cert.ProjRefIdeal.Value.REF1_at]
  refine Eq.trans (b := k0_pay137 (F := Ideal) (iblk m c 0 t) (iblk m c 1 t) (iblk m c 2 t) (iblk m c 3 t) (iblk m c 4 t) (iblk m c 5 t) (iblk m c 6 t) (iblk m c 7 t) (ix2 ⟨512 + k, by omega⟩ ⟨p + l, by omega⟩)) (by pointwise [k0_pay148, k0_pay95]) ?_
  rw [va_at m c t ht]
  refine PJ_congr _ _ _ _ _ _ _ _ ?_ ?_ <;> simp only [] <;> omega
theorem qb_tile (c : Dev nD) (t : Fin cfg0.N) (ht : t.val < 64) (p : ℕ) (hp : p + 128 ≤ 1024) (hq : p % 128 = 0) (s3 q) (k : Fin 512) (l : Fin 128) :
    shapeCast S1x1x512x128 (extractStridedSlice S512x128 ![0, p] (k0_pay150 (F := Ideal) (iblk m c 0 t) (iblk m c 1 t) (iblk m c 2 t) (iblk m c 3 t) (iblk m c 4 t) (iblk m c 5 t) (iblk m c 6 t) (iblk m c 7 t)) s3) q (ix4 0 0 k l)
      = REF2 (m ((c : Thread nD τ).loc main_arg0)) (m ((c : Thread nD τ).loc main_arg1)) (m ((c : Thread nD τ).loc main_arg2)) (ix4 ⟨t.val / 2, by omega⟩ ⟨t.val % 2 * 8 + p / 128, by omega⟩ k l) := by
  rw [cut_at _ hp, Cert.ProjRefIdeal.Value.REF2_at]
  refine Eq.trans (b := k0_pay137 (F := Ideal) (iblk m c 0 t) (iblk m c 1 t) (iblk m c 2 t) (iblk m c 3 t) (iblk m c 4 t) (iblk m c 5 t) (iblk m c 6 t) (iblk m c 7 t) (ix2 ⟨1024 + k, by omega⟩ ⟨p + l, by omega⟩) * Ideal.ofBits .f32 0x3E38AA3B#32) (by pointwise [k0_pay150, k0_pay149, k0_pay97, k0_pay96]) ?_
  rw [qb_at m c t ht]
  refine congrArg (· * _) (PJ_congr _ _ _ _ _ _ _ _ ?_ ?_) <;> simp only [] <;> omega
theorem vb_tile (c : Dev nD) (t : Fin cfg0.N) (ht : t.val < 64) (p : ℕ) (hp : p + 128 ≤ 1024) (hq : p % 128 = 0) (s3 q) (k : Fin 512) (l : Fin 128) :
    shapeCast S1x1x512x128 (extractStridedSlice S512x128 ![0, p] (k0_pay151 (F := Ideal) (iblk m c 0 t) (iblk m c 1 t) (iblk m c 2 t) (iblk m c 3 t) (iblk m c 4 t) (iblk m c 5 t) (iblk m c 6 t) (iblk m c 7 t)) s3) q (ix4 0 0 k l)
      = REF3 (m ((c : Thread nD τ).loc main_arg0)) (m ((c : Thread nD τ).loc main_arg1)) (m ((c : Thread nD τ).loc main_arg2)) (ix4 ⟨t.val / 2, by omega⟩ ⟨t.val % 2 * 8 + p / 128, by omega⟩ k l) := by
  rw [cut_at _ hp, Cert.ProjRefIdeal.Value.REF3_at]
  refine Eq.trans (b := k0_pay137 (F := Ideal) (iblk m c 0 t) (iblk m c 1 t) (iblk m c 2 t) (iblk m c 3 t) (iblk m c 4 t) (iblk m c 5 t) (iblk m c 6 t) (iblk m c 7 t) (ix2 ⟨1536 + k, by omega⟩ ⟨p + l, by omega⟩)) (by pointwise [k0_pay151, k0_pay98]) ?_
  rw [vb_at m c t ht]
  refine PJ_congr _ _ _ _ _ _ _ _ ?_ ?_ <;> simp only [] <;> omega
theorem ka_tile (c : Dev nD) (t : Fin cfg0.N) (ht : t.val < 64) (o : ℕ) (ho : o + 128 ≤ 512) (hm : o % 128 = 0) (s1 b q r0) (r : Fin 1024) (d : Fin 128) :
    shapeCast S1x1x1024x128 (truncf .bf16 (addf (mulf (extractStridedSlice S1024x128 ![0, o] (k0_pay152 (F := Ideal) (iblk m c 0 t) (iblk m c 1 t) (iblk m c 2 t) (iblk m c 3 t) (iblk m c 4 t) (iblk m c 5 t) (iblk m c 6 t) (iblk m c 7 t)) s1) (k0_pay153 (F := Ideal) (iblk m c 0 t) (iblk m c 1 t) (iblk m c 2 t) (iblk m c 3 t) (iblk m c 4 t) (iblk m c 5 t) (iblk m c 6 t) (iblk m c 7 t)))
      (mulf (dynamicRotate 1 64#32 none (extractStridedSlice S1024x128 ![0, o] (k0_pay152 (F := Ideal) (iblk m c 0 t) (iblk m c 1 t) (iblk m c 2 t) (iblk m c 3 t) (iblk m c 4 t) (iblk m c 5 t) (iblk m c 6 t) (iblk m c 7 t)) s1) r0) (k0_pay154 (F := Ideal) (iblk m c 0 t) (iblk m c 1 t) (iblk m c 2 t) (iblk m c 3 t) (iblk m c 4 t) (iblk m c 5 t) (iblk m c 6 t) (iblk m c 7 t)))) b) q (ix4 0 0 r d)
      = REF4 (m ((c : Thread nD τ).loc main_arg0)) (m ((c : Thread nD τ).loc main_arg1)) (m ((c : Thread nD τ).loc main_arg2)) (ix4 ⟨t.val / 2, by omega⟩ ⟨o / 128, by omega⟩ ⟨t.val % 2 * 1024 + r, by omega⟩ d) := by
  rw [key_at _ (by omega), ck_at, sk_at, blk6, blk7, SGN_at,
    show (⟨o + d, by omega⟩ : Fin 1024) = ⟨(⟨o + d, by omega⟩ : Fin 512).val, by omega⟩ from rfl, ka_at m c t ht,
    show (⟨o + (d + 128 - 64) % 128, by omega⟩ : Fin 1024) = ⟨(⟨o + (d + 128 - 64) % 128, by omega⟩ : Fin 512).val, by omega⟩ from rfl, ka_at m c t ht]
  by_cases hd : d.val < 64
  · rw [if_pos hd, Cert.ProjRefIdeal.Value.REF4_lo _ _ _ _ _ _ _ hd, mul_neg, mul_one, mul_neg, sub_eq_add_neg]
    congr 3 <;> first | (refine PJ_congr _ _ _ _ _ _ _ _ ?_ ?_ <;> simp only [lay] <;> omega) | (refine Fin.ext ?_; simp only [lay]; omega)
  · rw [if_neg hd, Cert.ProjRefIdeal.Value.REF4_hi _ _ _ _ _ _ _ (by omega), mul_one]
    congr 2 <;> first | (refine PJ_congr _ _ _ _ _ _ _ _ ?_ ?_ <;> simp only [lay] <;> omega) | (refine Fin.ext ?_; simp only [lay]; omega)
theorem kb_tile (c : Dev nD) (t : Fin cfg0.N) (ht : t.val < 64) (o : ℕ) (h0 : 512 ≤ o) (ho : o + 128 ≤ 1024) (hm : o % 128 = 0) (s1 b q) (r : Fin 1024) (d : Fin 128) :
    shapeCast S1x1x1024x128 (truncf .bf16 (extractStridedSlice S1024x128 ![0, o] (k0_pay152 (F := Ideal) (iblk m c 0 t) (iblk m c 1 t) (iblk m c 2 t) (iblk m c 3 t) (iblk m c 4 t) (iblk m c 5 t) (iblk m c 6 t) (iblk m c 7 t)) s1) b) q (ix4 0 0 r d)
      = REF5 (m ((c : Thread nD τ).loc main_arg0)) (m ((c : Thread nD τ).loc main_arg1)) (m ((c : Thread nD τ).loc main_arg2)) (ix4 ⟨t.val / 2, by omega⟩ ⟨(o - 512) / 128, by omega⟩ ⟨t.val % 2 * 1024 + r, by omega⟩ d) := by
  rw [row_at _ (by omega), Cert.ProjRefIdeal.Value.REF5_at]
  refine Eq.trans (congrArg (fun n => k0_pay152 (F := Ideal) (iblk m c 0 t) (iblk m c 1 t) (iblk m c 2 t) (iblk m c 3 t) (iblk m c 4 t) (iblk m c 5 t) (iblk m c 6 t) (iblk m c 7 t) (ix2 r n)) (Fin.ext ?_)) ((kb_at m c t ht ⟨o + d - 512, by omega⟩ r).trans ?_)
  · simp only []; omega
  · refine PJ_congr _ _ _ _ _ _ _ _ ?_ ?_ <;> simp only [] <;> omega

end Cert.ProjIdeal.Value
end
-- ==== Proof.ProjQuery.lean ====
/- Hand-written, untrusted: the rotated queries the input projection leaves. -/
module

public import proofs.«01_k».proof.Proof.ProjFinal

@[expose] public section

set_option maxRecDepth 16384

noncomputable section

open Idealize.ShloMosaic Idealize.ShloMosaic.TcCoe Idealize.SL.Sem
open Idealize.ShloMosaic.Pipeline (Dat)
open scoped BigOperators

namespace Cert.ProjIdeal.Value
open Cert.ProjIdeal Cert.ProjIdeal.Gen
open Cert.ProjRefIdeal.Value (REF0 REF1 REF2 REF3 REF4 REF5)

variable (m : (ℓ : Loc nD τ sig) → Buf (Elt Ideal) ℓ)

set_option maxHeartbeats 40000000 in
theorem point8 (c : Dev nD) (t : Fin cfg0.N) (y) :
    out0_8 (F := Ideal) (iblk m c 0 t) (iblk m c 1 t) (iblk m c 2 t) (iblk m c 3 t) (iblk m c 4 t) (iblk m c 5 t) (iblk m c 6 t) (iblk m c 7 t) y = REF0 (m ((c : Thread nD τ).loc main_arg0)) (m ((c : Thread nD τ).loc main_arg1)) (m ((c : Thread nD τ).loc main_arg2)) (((cfg0.win 8).blk t).view.emb y) := by
  have ht : t.val < 64 := lt_of_lt_of_eq t.isLt N_0
  canon_tiles x h
  case piece0 | piece2 | piece4 | piece6 | piece8 | piece10 | piece12 | piece14 | piece16 | piece18 | piece20 | piece22 | piece24 | piece26 | piece28 | piece30 | piece32 | piece34 | piece36 | piece38 | piece40 | piece42 | piece44 | piece46 | piece48 | piece50 | piece52 | piece54 | piece56 | piece58 | piece60 | piece62 =>
    idx_vars x
    obtain rfl : x0 = 0 := Subsingleton.elim _ _
    obtain rfl : x1 = 0 := Subsingleton.elim _ _
    exact (hi_tile m c t ht _ _ _ (by decide) (by decide) (by decide) (by decide) (by decide) (by decide) (by decide) (by decide) _ _ _ _).trans (congrArg _ (by blk_ext [idx t]))
  case piece1 | piece3 | piece5 | piece7 | piece9 | piece11 | piece13 | piece15 | piece17 | piece19 | piece21 | piece23 | piece25 | piece27 | piece29 | piece31 | piece33 | piece35 | piece37 | piece39 | piece41 | piece43 | piece45 | piece47 | piece49 | piece51 | piece53 | piece55 | piece57 | piece59 | piece61 | piece63 =>
    idx_vars x
    obtain rfl : x0 = 0 := Subsingleton.elim _ _
    obtain rfl : x1 = 0 := Subsingleton.elim _ _
    exact (lo_tile m c t ht _ _ _ (by decide) (by decide) (by decide) (by decide) (by decide) (by decide) (by decide) (by decide) _ _ _ _).trans (congrArg _ (by blk_ext [idx t]))
theorem final8 (c : Dev nD) : (dats m 0 c).arrAt 8 (cfgs 0).N = REF0 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  exact point8 m c t y

end Cert.ProjIdeal.Value
end
-- ==== Proof.ProjArrays.lean ====
/- Hand-written, untrusted: the other arrays the input projection leaves. -/
module

public import proofs.«01_k».proof.Proof.ProjFinal

@[expose] public section

set_option maxRecDepth 16384

noncomputable section

open Idealize.ShloMosaic Idealize.ShloMosaic.TcCoe Idealize.SL.Sem
open Idealize.ShloMosaic.Pipeline (Dat)
open scoped BigOperators

namespace Cert.ProjIdeal.Value
open Cert.ProjIdeal Cert.ProjIdeal.Gen
open Cert.ProjRefIdeal.Value (REF0 REF1 REF2 REF3 REF4 REF5)

variable (m : (ℓ : Loc nD τ sig) → Buf (Elt Ideal) ℓ)

set_option maxHeartbeats 4000000 in
theorem point9 (c : Dev nD) (t : Fin cfg0.N) (y) :
    out0_9 (F := Ideal) (iblk m c 0 t) (iblk m c 1 t) (iblk m c 2 t) (iblk m c 3 t) (iblk m c 4 t) (iblk m c 5 t) (iblk m c 6 t) (iblk m c 7 t) y = REF1 (m ((c : Thread nD τ).loc main_arg0)) (m ((c : Thread nD τ).loc main_arg1)) (m ((c : Thread nD τ).loc main_arg2)) (((cfg0.win 9).blk t).view.emb y) := by
  have ht : t.val < 64 := lt_of_lt_of_eq t.isLt N_0
  canon_tiles x h
  all_goals
    idx_vars x
    obtain rfl : x0 = 0 := Subsingleton.elim _ _
    obtain rfl : x1 = 0 := Subsingleton.elim _ _
    exact (va_tile m c t ht _ (by decide) (by decide) (by decide) _ _ _).trans (congrArg _ (by blk_ext [idx t]))
theorem final9 (c : Dev nD) : (dats m 0 c).arrAt 9 (cfgs 0).N = REF1 (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  exact point9 m c t y

set_option maxHeartbeats 4000000 in
theorem point10 (c : Dev nD) (t : Fin cfg0.N) (y) :
    out0_10 (F := Ideal) (iblk m c 0 t) (iblk m c 1 t) (iblk m c 2 t) (iblk m c 3 t) (iblk m c 4 t) (iblk m c 5 t) (iblk m c 6 t) (iblk m c 7 t) y = REF2 (m ((c : Thread nD τ).loc main_arg0)) (m ((c : Thread nD τ).loc main_arg1)) (m ((c : Thread nD τ).loc main_arg2)) (((cfg0.win 10).blk t).view.emb y) := by
  have ht : t.val < 64 := lt_of_lt_of_eq t.isLt N_0
  canon_tiles x h
  all_goals
    idx_vars x
    obtain rfl : x0 = 0 := Subsingleton.elim _ _
    obtain rfl : x1 = 0 := Subsingleton.elim _ _
    exact (qb_tile m c t ht _ (by decide) (by decide) (by decide) _ _ _).trans (congrArg _ (by blk_ext [idx t]))
theorem final10 (c : Dev nD) : (dats m 0 c).arrAt 10 (cfgs 0).N = REF2 (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  exact point10 m c t y

set_option maxHeartbeats 4000000 in
theorem point11 (c : Dev nD) (t : Fin cfg0.N) (y) :
    out0_11 (F := Ideal) (iblk m c 0 t) (iblk m c 1 t) (iblk m c 2 t) (iblk m c 3 t) (iblk m c 4 t) (iblk m c 5 t) (iblk m c 6 t) (iblk m c 7 t) y = REF3 (m ((c : Thread nD τ).loc main_arg0)) (m ((c : Thread nD τ).loc main_arg1)) (m ((c : Thread nD τ).loc main_arg2)) (((cfg0.win 11).blk t).view.emb y) := by
  have ht : t.val < 64 := lt_of_lt_of_eq t.isLt N_0
  canon_tiles x h
  all_goals
    idx_vars x
    obtain rfl : x0 = 0 := Subsingleton.elim _ _
    obtain rfl : x1 = 0 := Subsingleton.elim _ _
    exact (vb_tile m c t ht _ (by decide) (by decide) (by decide) _ _ _).trans (congrArg _ (by blk_ext [idx t]))
theorem final11 (c : Dev nD) : (dats m 0 c).arrAt 11 (cfgs 0).N = REF3 (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  exact point11 m c t y

set_option maxHeartbeats 4000000 in
theorem point12 (c : Dev nD) (t : Fin cfg0.N) (y) :
    out0_12 (F := Ideal) (iblk m c 0 t) (iblk m c 1 t) (iblk m c 2 t) (iblk m c 3 t) (iblk m c 4 t) (iblk m c 5 t) (iblk m c 6 t) (iblk m c 7 t) y = REF4 (m ((c : Thread nD τ).loc main_arg0)) (m ((c : Thread nD τ).loc main_arg1)) (m ((c : Thread nD τ).loc main_arg2)) (((cfg0.win 12).blk t).view.emb y) := by
  have ht : t.val < 64 := lt_of_lt_of_eq t.isLt N_0
  canon_tiles x h
  all_goals
    idx_vars x
    obtain rfl : x0 = 0 := Subsingleton.elim _ _
    obtain rfl : x1 = 0 := Subsingleton.elim _ _
    exact (ka_tile m c t ht _ (by decide) (by decide) (by decide) _ _ rotates_S1024x128_d1 _ _).trans (congrArg _ (by blk_ext [idx t]))
theorem final12 (c : Dev nD) : (dats m 0 c).arrAt 12 (cfgs 0).N = REF4 (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  exact point12 m c t y

set_option maxHeartbeats 4000000 in
theorem point13 (c : Dev nD) (t : Fin cfg0.N) (y) :
    out0_13 (F := Ideal) (iblk m c 0 t) (iblk m c 1 t) (iblk m c 2 t) (iblk m c 3 t) (iblk m c 4 t) (iblk m c 5 t) (iblk m c 6 t) (iblk m c 7 t) y = REF5 (m ((c : Thread nD τ).loc main_arg0)) (m ((c : Thread nD τ).loc main_arg1)) (m ((c : Thread nD τ).loc main_arg2)) (((cfg0.win 13).blk t).view.emb y) := by
  have ht : t.val < 64 := lt_of_lt_of_eq t.isLt N_0
  canon_tiles x h
  all_goals
    idx_vars x
    obtain rfl : x0 = 0 := Subsingleton.elim _ _
    obtain rfl : x1 = 0 := Subsingleton.elim _ _
    exact (kb_tile m c t ht _ (by decide) (by decide) (by decide) _ _ _ _ _).trans (congrArg _ (by blk_ext [idx t]))
theorem final13 (c : Dev nD) : (dats m 0 c).arrAt 13 (cfgs 0).N = REF5 (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  exact point13 m c t y

end Cert.ProjIdeal.Value
end
-- ==== Proof.ProjClaims.lean ====
/- Hand-written, untrusted: the claims about the input projection. -/
module

public import proofs.«01_k».proof.Defs
public import proofs.«01_k».proof.Proof.Gen.Proj
public import proofs.«01_k».proof.Proof.Gen.Proj.Frame
public import proofs.«01_k».proof.Proof.ProjQuery
public import proofs.«01_k».proof.Proof.ProjArrays
public import Idealize.ShloMosaic.Lib.Claim

@[expose] public section

set_option maxRecDepth 16384

noncomputable section

namespace Cert.ProjClaims

open Idealize.ShloMosaic Idealize.SL.Sem

theorem frame_P : Cert.quiescent_Proj := fun m g _ => Cert.Proj.Gen.frame m g
theorem frame_PI : Cert.quiescent_ProjIdeal := fun m g _ => Cert.ProjIdeal.Gen.frame m g
theorem frame_RI : Cert.quiescent_ProjRefIdeal := by
  intro m g _
  exact (θ_run Cert.ProjRefIdeal.defs _ _).mono (fun r h => ⟨fun c => (h c).2.2.2.2.2.2, sem_eq_zero_of_no_sems (by decide) r.2⟩)
    (Cert.ProjRefIdeal.Value.run (F := Ideal) m g)

theorem algebraic : Cert.algebraic_ProjIdeal_ProjRefIdeal := by
  pair_intro
  · run_from Cert.ProjIdeal.Value.run_blocks m g
  · run_from Cert.ProjRefIdeal.Value.run_ref m' g'
    · exact (Cert.ProjIdeal.Value.final8 m c).symm
    · exact (Cert.ProjIdeal.Value.final9 m c).symm
    · exact (Cert.ProjIdeal.Value.final10 m c).symm
    · exact (Cert.ProjIdeal.Value.final11 m c).symm
    · exact (Cert.ProjIdeal.Value.final12 m c).symm
    · exact (Cert.ProjIdeal.Value.final13 m c).symm

end Cert.ProjClaims

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal.Run
public import proofs.«01_k».proof.Proof.Gen.MlpRefIdeal
public import proofs.«01_k».proof.Proof.MlpClaims
public import proofs.«01_k».proof.Proof.Gen.Diff
public import proofs.«01_k».proof.Proof.Gen.Diff.Frame
public import proofs.«01_k».proof.Proof.Gen.DiffIdeal
public import proofs.«01_k».proof.Proof.Gen.DiffIdeal.Frame
public import proofs.«01_k».proof.Proof.Gen.DiffIdeal.Value
public import proofs.«01_k».proof.Proof.Gen.DiffRefIdeal.Run
public import proofs.«01_k».proof.Proof.Gen.DiffRefIdeal
public import proofs.«01_k».proof.Proof.Gen.Pre_finite
public import proofs.«01_k».proof.Proof.DiffClaims
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal
public import proofs.«01_k».proof.Proof.ProjClaims
public import proofs.«01_k».proof.Proof.Gen.Band
public import proofs.«01_k».proof.Proof.Gen.Band.Frame
public import proofs.«01_k».proof.Proof.Gen.BandIdeal
public import proofs.«01_k».proof.Proof.Gen.BandIdeal.Frame
public import Idealize.ShloMosaic.Adequacy
public import Idealize.ShloMosaic.Init

@[expose] public section

noncomputable section

namespace Cert.Proof

open Idealize.ShloMosaic Idealize.SL.Sem Cert.Mlp

theorem claim : Cert.Claim :=
  ⟨Cert.Diff.Gen.facts, Cert.DiffIdeal.Gen.facts, Cert.DiffRefIdeal.Gen.facts,
    Cert.Mlp.Gen.facts, Cert.MlpIdeal.Gen.facts, Cert.MlpRefIdeal.Gen.facts,
    Cert.Proj.Gen.facts, Cert.ProjIdeal.Gen.facts, Cert.ProjRefIdeal.Gen.facts,
    Cert.Band.Gen.facts, Cert.BandIdeal.Gen.facts, Cert.Pre_finite.Gen.facts,
    DiffClaims.frame_P, DiffClaims.frame_PI, DiffClaims.frame_PI_finite, DiffClaims.frame_RI, DiffClaims.frame_RI_finite,
    MlpClaims.frame_P, MlpClaims.frame_PI, MlpClaims.frame_RI,
    ProjClaims.frame_P, ProjClaims.frame_PI, ProjClaims.frame_RI,
    fun m ρ _ => Cert.Band.Gen.frame m ρ, fun m ρ _ => Cert.BandIdeal.Gen.frame m ρ,
    DiffClaims.preserves, DiffClaims.algebraic, trivial, MlpClaims.algebraic, trivial, ProjClaims.algebraic, trivial⟩

end Cert.Proof

end
